-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![2048, 16384]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 2048]⟩ ⟨2, ![2048, 16384]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) : IVec S_ 1 :=
  let main_cst : FVec F S_ .f32 := constant S_ .f32 0x7F800000#32
  let main_v0 : FVec F S2048x2048 .f32 := broadcastInDim S2048x2048 ![] bcast_S_S2048x2048 main_cst
  let main_v1 : IVec S2048x2048 1 := cmpf .olt main_arg0 main_v0
  let main_cst_0 : FVec F S_ .f32 := constant S_ .f32 0xFF800000#32
  let main_v2 : FVec F S2048x2048 .f32 := broadcastInDim S2048x2048 ![] bcast_S_S2048x2048 main_cst_0
  let main_v3 : IVec S2048x2048 1 := cmpf .ogt main_arg0 main_v2
  let main_v4 : IVec S2048x2048 1 := andi main_v1 main_v3
  let main_c : IVec S_ 1 := constantI S_ 1 1#1
  let main_v5 : IVec S_ 1 := (fun x v => Host.reduce IntOp.andi x v reducesTo_S2048x2048_S_d0_1 h_S_) main_v4 main_c
  main_v5
-- ==== Pre_finite_ReferenceIdeal.lean ====
abbrev S2048x16384 : Shape := ⟨2, ![2048, 16384]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel

variable [Facts]

def fn {F : FTy → Type} [FloatOps F] (main_arg0 : FVec F S2048x16384 .f32) : IVec S_ 1 :=
  let main_cst : FVec F S_ .f32 := constant S_ .f32 0x7F800000#32
  let main_v0 : FVec F S2048x16384 .f32 := broadcastInDim S2048x16384 ![] bcast_S_S2048x16384 main_cst
  let main_v1 : IVec S2048x16384 1 := cmpf .olt main_arg0 main_v0
  let main_cst_0 : FVec F S_ .f32 := constant S_ .f32 0xFF800000#32
  let main_v2 : FVec F S2048x16384 .f32 := broadcastInDim S2048x16384 ![] bcast_S_S2048x16384 main_cst_0
  let main_v3 : IVec S2048x16384 1 := cmpf .ogt main_arg0 main_v2
  let main_v4 : IVec S2048x16384 1 := andi main_v1 main_v3
  let main_c : IVec S_ 1 := constantI S_ 1 1#1
  let main_v5 : IVec S_ 1 := (fun x v => Host.reduce IntOp.andi x v reducesTo_S2048x16384_S_d0_1 h_S_) main_v4 main_c
  main_v5
-- ==== Kernel.lean ====
abbrev S2048x2048 : Shape := ⟨2, ![2048, 2048]⟩
abbrev S8x16x128 : Shape := ⟨3, ![8, 16, 128]⟩
abbrev S7 : Shape := ⟨1, ![7]⟩
abbrev S_ : Shape := ⟨0, ![]⟩
abbrev S512x2048 : Shape := ⟨2, ![512, 2048]⟩
abbrev S4x128x2048 : Shape := ⟨3, ![4, 128, 2048]⟩
abbrev S4x128 : Shape := ⟨2, ![4, 128]⟩
abbrev S16x128 : Shape := ⟨2, ![16, 128]⟩
abbrev S1x16x128 : Shape := ⟨3, ![1, 16, 128]⟩
abbrev S1 : Shape := ⟨1, ![1]⟩
abbrev S4x128x1 : Shape := ⟨3, ![4, 128, 1]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .local _ .vmem, ⟨0, _⟩ => ⟨S2048x2048, .f32⟩
  | .local _ .vmem, ⟨1, _⟩ => ⟨S2048x2048, .f32⟩
  | .local _ .vmem, ⟨2, _⟩ => ⟨S8x16x128, .f32⟩
  | .local _ .vmem, ⟨3, _⟩ => ⟨S8x16x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v112 : Index := Scalar.indexCast v2
  let c0_71 : Index := 0#32
  let c0_72 : Index := 0#32
  ![v112.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_84 : BitVec 32 := 0#32
  let c0_i32_85 : BitVec 32 := 0#32
  ![v2.toNat, 0, 0]
def k0_dev8 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_73 : BitVec 32 := 1#32
  let v116 : BitVec 32 := Scalar.addi v2 c1_i32_73
  let c8_i32_74 : BitVec 32 := 8#32
  let c0_i32_75 : BitVec 32 := 0#32
  let v117 : BitVec 1 := Scalar.cmpi .eq c8_i32_74 c0_i32_75
  let c1_i32_76 : BitVec 32 := 1#32
  let v118 : BitVec 32 := Scalar.select v117 c1_i32_76 c8_i32_74
  let v119 : BitVec 32 := Scalar.remsi v116 v118
  let c0_i32_78 : BitVec 32 := 0#32
  let v121 : BitVec 1 := Scalar.cmpi .slt v119 c0_i32_78
  let c0_i32_79 : BitVec 32 := 0#32
  let v122 : BitVec 1 := Scalar.cmpi .slt v118 c0_i32_79
  let v123 : BitVec 1 := Scalar.xori v121 v122
  let c0_i32_77 : BitVec 32 := 0#32
  let v120 : BitVec 1 := Scalar.cmpi .ne v119 c0_i32_77
  let v124 : BitVec 1 := Scalar.andi v123 v120
  let v125 : BitVec 32 := Scalar.addi v119 v118
  let v126 : BitVec 32 := Scalar.select v124 v125 v119
  let c1_i32_82 : BitVec 32 := 1#32
  let v127 : BitVec 32 := Scalar.muli v126 c1_i32_82
  let v128 : BitVec 32 := Scalar.addi c0_i32_83 v127
  v128.toNat
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_88 : BitVec 32 := 2#32
  let v137 : BitVec 32 := Scalar.addi v2 c2_i32_88
  let c8_i32_89 : BitVec 32 := 8#32
  let c0_i32_90 : BitVec 32 := 0#32
  let v138 : BitVec 1 := Scalar.cmpi .eq c8_i32_89 c0_i32_90
  let c1_i32_91 : BitVec 32 := 1#32
  let v139 : BitVec 32 := Scalar.select v138 c1_i32_91 c8_i32_89
  let v140 : BitVec 32 := Scalar.remsi v137 v139
  let c0_i32_93 : BitVec 32 := 0#32
  let v142 : BitVec 1 := Scalar.cmpi .slt v140 c0_i32_93
  let c0_i32_94 : BitVec 32 := 0#32
  let v143 : BitVec 1 := Scalar.cmpi .slt v139 c0_i32_94
  let v144 : BitVec 1 := Scalar.xori v142 v143
  let c0_i32_92 : BitVec 32 := 0#32
  let v141 : BitVec 1 := Scalar.cmpi .ne v140 c0_i32_92
  let v145 : BitVec 1 := Scalar.andi v144 v141
  let v146 : BitVec 32 := Scalar.addi v140 v139
  let v147 : BitVec 32 := Scalar.select v145 v146 v140
  let c1_i32_97 : BitVec 32 := 1#32
  let v148 : BitVec 32 := Scalar.muli v147 c1_i32_97
  let v149 : BitVec 32 := Scalar.addi c0_i32_98 v148
  v149.toNat
def k0_dev10 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_103 : BitVec 32 := 3#32
  let v158 : BitVec 32 := Scalar.addi v2 c3_i32_103
  let c8_i32_104 : BitVec 32 := 8#32
  let c0_i32_105 : BitVec 32 := 0#32
  let v159 : BitVec 1 := Scalar.cmpi .eq c8_i32_104 c0_i32_105
  let c1_i32_106 : BitVec 32 := 1#32
  let v160 : BitVec 32 := Scalar.select v159 c1_i32_106 c8_i32_104
  let v161 : BitVec 32 := Scalar.remsi v158 v160
  let c0_i32_108 : BitVec 32 := 0#32
  let v163 : BitVec 1 := Scalar.cmpi .slt v161 c0_i32_108
  let c0_i32_109 : BitVec 32 := 0#32
  let v164 : BitVec 1 := Scalar.cmpi .slt v160 c0_i32_109
  let v165 : BitVec 1 := Scalar.xori v163 v164
  let c0_i32_107 : BitVec 32 := 0#32
  let v162 : BitVec 1 := Scalar.cmpi .ne v161 c0_i32_107
  let v166 : BitVec 1 := Scalar.andi v165 v162
  let v167 : BitVec 32 := Scalar.addi v161 v160
  let v168 : BitVec 32 := Scalar.select v166 v167 v161
  let c1_i32_112 : BitVec 32 := 1#32
  let v169 : BitVec 32 := Scalar.muli v168 c1_i32_112
  let v170 : BitVec 32 := Scalar.addi c0_i32_113 v169
  v170.toNat
def k0_dev11 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_118 : BitVec 32 := 4#32
  let v179 : BitVec 32 := Scalar.addi v2 c4_i32_118
  let c8_i32_119 : BitVec 32 := 8#32
  let c0_i32_120 : BitVec 32 := 0#32
  let v180 : BitVec 1 := Scalar.cmpi .eq c8_i32_119 c0_i32_120
  let c1_i32_121 : BitVec 32 := 1#32
  let v181 : BitVec 32 := Scalar.select v180 c1_i32_121 c8_i32_119
  let v182 : BitVec 32 := Scalar.remsi v179 v181
  let c0_i32_123 : BitVec 32 := 0#32
  let v184 : BitVec 1 := Scalar.cmpi .slt v182 c0_i32_123
  let c0_i32_124 : BitVec 32 := 0#32
  let v185 : BitVec 1 := Scalar.cmpi .slt v181 c0_i32_124
  let v186 : BitVec 1 := Scalar.xori v184 v185
  let c0_i32_122 : BitVec 32 := 0#32
  let v183 : BitVec 1 := Scalar.cmpi .ne v182 c0_i32_122
  let v187 : BitVec 1 := Scalar.andi v186 v183
  let v188 : BitVec 32 := Scalar.addi v182 v181
  let v189 : BitVec 32 := Scalar.select v187 v188 v182
  let c1_i32_127 : BitVec 32 := 1#32
  let v190 : BitVec 32 := Scalar.muli v189 c1_i32_127
  let v191 : BitVec 32 := Scalar.addi c0_i32_128 v190
  v191.toNat
def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_133 : BitVec 32 := 5#32
  let v200 : BitVec 32 := Scalar.addi v2 c5_i32_133
  let c8_i32_134 : BitVec 32 := 8#32
  let c0_i32_135 : BitVec 32 := 0#32
  let v201 : BitVec 1 := Scalar.cmpi .eq c8_i32_134 c0_i32_135
  let c1_i32_136 : BitVec 32 := 1#32
  let v202 : BitVec 32 := Scalar.select v201 c1_i32_136 c8_i32_134
  let v203 : BitVec 32 := Scalar.remsi v200 v202
  let c0_i32_138 : BitVec 32 := 0#32
  let v205 : BitVec 1 := Scalar.cmpi .slt v203 c0_i32_138
  let c0_i32_139 : BitVec 32 := 0#32
  let v206 : BitVec 1 := Scalar.cmpi .slt v202 c0_i32_139
  let v207 : BitVec 1 := Scalar.xori v205 v206
  let c0_i32_137 : BitVec 32 := 0#32
  let v204 : BitVec 1 := Scalar.cmpi .ne v203 c0_i32_137
  let v208 : BitVec 1 := Scalar.andi v207 v204
  let v209 : BitVec 32 := Scalar.addi v203 v202
  let v210 : BitVec 32 := Scalar.select v208 v209 v203
  let c1_i32_142 : BitVec 32 := 1#32
  let v211 : BitVec 32 := Scalar.muli v210 c1_i32_142
  let v212 : BitVec 32 := Scalar.addi c0_i32_143 v211
  v212.toNat
def k0_dev13 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_148 : BitVec 32 := 6#32
  let v221 : BitVec 32 := Scalar.addi v2 c6_i32_148
  let c8_i32_149 : BitVec 32 := 8#32
  let c0_i32_150 : BitVec 32 := 0#32
  let v222 : BitVec 1 := Scalar.cmpi .eq c8_i32_149 c0_i32_150
  let c1_i32_151 : BitVec 32 := 1#32
  let v223 : BitVec 32 := Scalar.select v222 c1_i32_151 c8_i32_149
  let v224 : BitVec 32 := Scalar.remsi v221 v223
  let c0_i32_153 : BitVec 32 := 0#32
  let v226 : BitVec 1 := Scalar.cmpi .slt v224 c0_i32_153
  let c0_i32_154 : BitVec 32 := 0#32
  let v227 : BitVec 1 := Scalar.cmpi .slt v223 c0_i32_154
  let v228 : BitVec 1 := Scalar.xori v226 v227
  let c0_i32_152 : BitVec 32 := 0#32
  let v225 : BitVec 1 := Scalar.cmpi .ne v224 c0_i32_152
  let v229 : BitVec 1 := Scalar.andi v228 v225
  let v230 : BitVec 32 := Scalar.addi v224 v223
  let v231 : BitVec 32 := Scalar.select v229 v230 v224
  let c1_i32_157 : BitVec 32 := 1#32
  let v232 : BitVec 32 := Scalar.muli v231 c1_i32_157
  let v233 : BitVec 32 := Scalar.addi c0_i32_158 v232
  v233.toNat
def k0_dev14 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_163 : BitVec 32 := 7#32
  let v242 : BitVec 32 := Scalar.addi v2 c7_i32_163
  let c8_i32_164 : BitVec 32 := 8#32
  let c0_i32_165 : BitVec 32 := 0#32
  let v243 : BitVec 1 := Scalar.cmpi .eq c8_i32_164 c0_i32_165
  let c1_i32_166 : BitVec 32 := 1#32
  let v244 : BitVec 32 := Scalar.select v243 c1_i32_166 c8_i32_164
  let v245 : BitVec 32 := Scalar.remsi v242 v244
  let c0_i32_168 : BitVec 32 := 0#32
  let v247 : BitVec 1 := Scalar.cmpi .slt v245 c0_i32_168
  let c0_i32_169 : BitVec 32 := 0#32
  let v248 : BitVec 1 := Scalar.cmpi .slt v244 c0_i32_169
  let v249 : BitVec 1 := Scalar.xori v247 v248
  let c0_i32_167 : BitVec 32 := 0#32
  let v246 : BitVec 1 := Scalar.cmpi .ne v245 c0_i32_167
  let v250 : BitVec 1 := Scalar.andi v249 v246
  let v251 : BitVec 32 := Scalar.addi v245 v244
  let v252 : BitVec 32 := Scalar.select v250 v251 v245
  let c1_i32_172 : BitVec 32 := 1#32
  let v253 : BitVec 32 := Scalar.muli v252 c1_i32_172
  let v254 : BitVec 32 := Scalar.addi c0_i32_173 v253
  v254.toNat
def k0_dev15 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_192 : BitVec 32 := 1#32
  let v300 : BitVec 32 := Scalar.addi v2 c1_i32_192
  let c8_i32_193 : BitVec 32 := 8#32
  let c0_i32_194 : BitVec 32 := 0#32
  let v301 : BitVec 1 := Scalar.cmpi .eq c8_i32_193 c0_i32_194
  let c1_i32_195 : BitVec 32 := 1#32
  let v302 : BitVec 32 := Scalar.select v301 c1_i32_195 c8_i32_193
  let v303 : BitVec 32 := Scalar.remsi v300 v302
  let c0_i32_197 : BitVec 32 := 0#32
  let v305 : BitVec 1 := Scalar.cmpi .slt v303 c0_i32_197
  let c0_i32_198 : BitVec 32 := 0#32
  let v306 : BitVec 1 := Scalar.cmpi .slt v302 c0_i32_198
  let v307 : BitVec 1 := Scalar.xori v305 v306
  let c0_i32_196 : BitVec 32 := 0#32
  let v304 : BitVec 1 := Scalar.cmpi .ne v303 c0_i32_196
  let v308 : BitVec 1 := Scalar.andi v307 v304
  let v309 : BitVec 32 := Scalar.addi v303 v302
  let v310 : BitVec 32 := Scalar.select v308 v309 v303
  let c1_i32_201 : BitVec 32 := 1#32
  let v311 : BitVec 32 := Scalar.muli v310 c1_i32_201
  let v312 : BitVec 32 := Scalar.addi c0_i32_202 v311
  v312.toNat
def k0_dev16 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_207 : BitVec 32 := 2#32
  let v321 : BitVec 32 := Scalar.addi v2 c2_i32_207
  let c8_i32_208 : BitVec 32 := 8#32
  let c0_i32_209 : BitVec 32 := 0#32
  let v322 : BitVec 1 := Scalar.cmpi .eq c8_i32_208 c0_i32_209
  let c1_i32_210 : BitVec 32 := 1#32
  let v323 : BitVec 32 := Scalar.select v322 c1_i32_210 c8_i32_208
  let v324 : BitVec 32 := Scalar.remsi v321 v323
  let c0_i32_212 : BitVec 32 := 0#32
  let v326 : BitVec 1 := Scalar.cmpi .slt v324 c0_i32_212
  let c0_i32_213 : BitVec 32 := 0#32
  let v327 : BitVec 1 := Scalar.cmpi .slt v323 c0_i32_213
  let v328 : BitVec 1 := Scalar.xori v326 v327
  let c0_i32_211 : BitVec 32 := 0#32
  let v325 : BitVec 1 := Scalar.cmpi .ne v324 c0_i32_211
  let v329 : BitVec 1 := Scalar.andi v328 v325
  let v330 : BitVec 32 := Scalar.addi v324 v323
  let v331 : BitVec 32 := Scalar.select v329 v330 v324
  let c1_i32_216 : BitVec 32 := 1#32
  let v332 : BitVec 32 := Scalar.muli v331 c1_i32_216
  let v333 : BitVec 32 := Scalar.addi c0_i32_217 v332
  v333.toNat
def k0_dev17 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_222 : BitVec 32 := 3#32
  let v342 : BitVec 32 := Scalar.addi v2 c3_i32_222
  let c8_i32_223 : BitVec 32 := 8#32
  let c0_i32_224 : BitVec 32 := 0#32
  let v343 : BitVec 1 := Scalar.cmpi .eq c8_i32_223 c0_i32_224
  let c1_i32_225 : BitVec 32 := 1#32
  let v344 : BitVec 32 := Scalar.select v343 c1_i32_225 c8_i32_223
  let v345 : BitVec 32 := Scalar.remsi v342 v344
  let c0_i32_227 : BitVec 32 := 0#32
  let v347 : BitVec 1 := Scalar.cmpi .slt v345 c0_i32_227
  let c0_i32_228 : BitVec 32 := 0#32
  let v348 : BitVec 1 := Scalar.cmpi .slt v344 c0_i32_228
  let v349 : BitVec 1 := Scalar.xori v347 v348
  let c0_i32_226 : BitVec 32 := 0#32
  let v346 : BitVec 1 := Scalar.cmpi .ne v345 c0_i32_226
  let v350 : BitVec 1 := Scalar.andi v349 v346
  let v351 : BitVec 32 := Scalar.addi v345 v344
  let v352 : BitVec 32 := Scalar.select v350 v351 v345
  let c1_i32_231 : BitVec 32 := 1#32
  let v353 : BitVec 32 := Scalar.muli v352 c1_i32_231
  let v354 : BitVec 32 := Scalar.addi c0_i32_232 v353
  v354.toNat
def k0_dev18 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_237 : BitVec 32 := 4#32
  let v363 : BitVec 32 := Scalar.addi v2 c4_i32_237
  let c8_i32_238 : BitVec 32 := 8#32
  let c0_i32_239 : BitVec 32 := 0#32
  let v364 : BitVec 1 := Scalar.cmpi .eq c8_i32_238 c0_i32_239
  let c1_i32_240 : BitVec 32 := 1#32
  let v365 : BitVec 32 := Scalar.select v364 c1_i32_240 c8_i32_238
  let v366 : BitVec 32 := Scalar.remsi v363 v365
  let c0_i32_242 : BitVec 32 := 0#32
  let v368 : BitVec 1 := Scalar.cmpi .slt v366 c0_i32_242
  let c0_i32_243 : BitVec 32 := 0#32
  let v369 : BitVec 1 := Scalar.cmpi .slt v365 c0_i32_243
  let v370 : BitVec 1 := Scalar.xori v368 v369
  let c0_i32_241 : BitVec 32 := 0#32
  let v367 : BitVec 1 := Scalar.cmpi .ne v366 c0_i32_241
  let v371 : BitVec 1 := Scalar.andi v370 v367
  let v372 : BitVec 32 := Scalar.addi v366 v365
  let v373 : BitVec 32 := Scalar.select v371 v372 v366
  let c1_i32_246 : BitVec 32 := 1#32
  let v374 : BitVec 32 := Scalar.muli v373 c1_i32_246
  let v375 : BitVec 32 := Scalar.addi c0_i32_247 v374
  v375.toNat
def k0_dev19 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_252 : BitVec 32 := 5#32
  let v384 : BitVec 32 := Scalar.addi v2 c5_i32_252
  let c8_i32_253 : BitVec 32 := 8#32
  let c0_i32_254 : BitVec 32 := 0#32
  let v385 : BitVec 1 := Scalar.cmpi .eq c8_i32_253 c0_i32_254
  let c1_i32_255 : BitVec 32 := 1#32
  let v386 : BitVec 32 := Scalar.select v385 c1_i32_255 c8_i32_253
  let v387 : BitVec 32 := Scalar.remsi v384 v386
  let c0_i32_257 : BitVec 32 := 0#32
  let v389 : BitVec 1 := Scalar.cmpi .slt v387 c0_i32_257
  let c0_i32_258 : BitVec 32 := 0#32
  let v390 : BitVec 1 := Scalar.cmpi .slt v386 c0_i32_258
  let v391 : BitVec 1 := Scalar.xori v389 v390
  let c0_i32_256 : BitVec 32 := 0#32
  let v388 : BitVec 1 := Scalar.cmpi .ne v387 c0_i32_256
  let v392 : BitVec 1 := Scalar.andi v391 v388
  let v393 : BitVec 32 := Scalar.addi v387 v386
  let v394 : BitVec 32 := Scalar.select v392 v393 v387
  let c1_i32_261 : BitVec 32 := 1#32
  let v395 : BitVec 32 := Scalar.muli v394 c1_i32_261
  let v396 : BitVec 32 := Scalar.addi c0_i32_262 v395
  v396.toNat
def k0_dev20 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_267 : BitVec 32 := 6#32
  let v405 : BitVec 32 := Scalar.addi v2 c6_i32_267
  let c8_i32_268 : BitVec 32 := 8#32
  let c0_i32_269 : BitVec 32 := 0#32
  let v406 : BitVec 1 := Scalar.cmpi .eq c8_i32_268 c0_i32_269
  let c1_i32_270 : BitVec 32 := 1#32
  let v407 : BitVec 32 := Scalar.select v406 c1_i32_270 c8_i32_268
  let v408 : BitVec 32 := Scalar.remsi v405 v407
  let c0_i32_272 : BitVec 32 := 0#32
  let v410 : BitVec 1 := Scalar.cmpi .slt v408 c0_i32_272
  let c0_i32_273 : BitVec 32 := 0#32
  let v411 : BitVec 1 := Scalar.cmpi .slt v407 c0_i32_273
  let v412 : BitVec 1 := Scalar.xori v410 v411
  let c0_i32_271 : BitVec 32 := 0#32
  let v409 : BitVec 1 := Scalar.cmpi .ne v408 c0_i32_271
  let v413 : BitVec 1 := Scalar.andi v412 v409
  let v414 : BitVec 32 := Scalar.addi v408 v407
  let v415 : BitVec 32 := Scalar.select v413 v414 v408
  let c1_i32_276 : BitVec 32 := 1#32
  let v416 : BitVec 32 := Scalar.muli v415 c1_i32_276
  let v417 : BitVec 32 := Scalar.addi c0_i32_277 v416
  v417.toNat
def k0_dev21 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_282 : BitVec 32 := 7#32
  let v426 : BitVec 32 := Scalar.addi v2 c7_i32_282
  let c8_i32_283 : BitVec 32 := 8#32
  let c0_i32_284 : BitVec 32 := 0#32
  let v427 : BitVec 1 := Scalar.cmpi .eq c8_i32_283 c0_i32_284
  let c1_i32_285 : BitVec 32 := 1#32
  let v428 : BitVec 32 := Scalar.select v427 c1_i32_285 c8_i32_283
  let v429 : BitVec 32 := Scalar.remsi v426 v428
  let c0_i32_287 : BitVec 32 := 0#32
  let v431 : BitVec 1 := Scalar.cmpi .slt v429 c0_i32_287
  let c0_i32_288 : BitVec 32 := 0#32
  let v432 : BitVec 1 := Scalar.cmpi .slt v428 c0_i32_288
  let v433 : BitVec 1 := Scalar.xori v431 v432
  let c0_i32_286 : BitVec 32 := 0#32
  let v430 : BitVec 1 := Scalar.cmpi .ne v429 c0_i32_286
  let v434 : BitVec 1 := Scalar.andi v433 v430
  let v435 : BitVec 32 := Scalar.addi v429 v428
  let v436 : BitVec 32 := Scalar.select v434 v435 v429
  let c1_i32_291 : BitVec 32 := 1#32
  let v437 : BitVec 32 := Scalar.muli v436 c1_i32_291
  let v438 : BitVec 32 := Scalar.addi c0_i32_292 v437
  v438.toNat
def k0_off3 (d0 : Dev nD) (c1_i32_297 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v447 : BitVec 32 := Scalar.subi v2 c1_i32_297
  let c8_i32_298 : BitVec 32 := 8#32
  let c0_i32_299 : BitVec 32 := 0#32
  let v448 : BitVec 1 := Scalar.cmpi .eq c8_i32_298 c0_i32_299
  let c1_i32_300 : BitVec 32 := 1#32
  let v449 : BitVec 32 := Scalar.select v448 c1_i32_300 c8_i32_298
  let v450 : BitVec 32 := Scalar.remsi v447 v449
  let c0_i32_302 : BitVec 32 := 0#32
  let v452 : BitVec 1 := Scalar.cmpi .slt v450 c0_i32_302
  let c0_i32_303 : BitVec 32 := 0#32
  let v453 : BitVec 1 := Scalar.cmpi .slt v449 c0_i32_303
  let v454 : BitVec 1 := Scalar.xori v452 v453
  let c0_i32_301 : BitVec 32 := 0#32
  let v451 : BitVec 1 := Scalar.cmpi .ne v450 c0_i32_301
  let v455 : BitVec 1 := Scalar.andi v454 v451
  let v456 : BitVec 32 := Scalar.addi v450 v449
  let v457 : BitVec 32 := Scalar.select v455 v456 v450
  let c0_i32_308 : BitVec 32 := 0#32
  let c0_i32_309 : BitVec 32 := 0#32
  ![v457.toNat, 0, 0]
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x16384 : Shape := ⟨2, ![2048, 16384]⟩
abbrev S_ : Shape := ⟨0, ![]⟩
abbrev S2048 : Shape := ⟨1, ![2048]⟩
abbrev S2048x1 : Shape := ⟨2, ![2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x16384, .f32⟩
  | .hbm, ⟨5, _⟩ => ⟨S2048x16384, .f32⟩
  | .hbm, ⟨6, _⟩ => ⟨S2048x16384, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x16384, .f32⟩
  | .hbm, ⟨11, _⟩ => ⟨S2048x16384, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.KernelIdeal.Protocol.lean ====
/-
# The exchange between the eight devices

Every device holds two arrays of eight rows, one for the row maxima and one for the row sums. It fills its own row of
each, sends that row to the seven others, and receives theirs. This module says which device each printed device number
names, what the semaphores of the exchange are, what passes through each of them, and what a device owes the others.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Rounds.Family
public import Idealize.ShloMosaic.Lib.ValueIdxCore
public import Idealize.ShloMosaic.Lib.Tactic

@[expose] public section

noncomputable section

namespace Cert.KernelIdeal.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)

variable {F : FTy → Type} [FloatOps F]

/-- The exchange's own copy of the rounds algebra; a duty is named by one of the seven distances. -/
abbrev UX : Type := URounds (GSem nD τ sig) (Fin 7)
/-- The launch's copy beside the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## The devices -/

set_option backward.proofsInPublic true in
/-- The device `j + 1` places after `c`. -/
def peer (c : Dev nD) (j : Fin 7) : Dev nD := ⟨(c.val + j.val + 1) % 8, Nat.mod_lt _ (by decide)⟩
set_option backward.proofsInPublic true in
/-- The device `j + 1` places before `c`. -/
def src (c : Dev nD) (j : Fin 7) : Dev nD := ⟨(c.val + 7 - j.val) % 8, Nat.mod_lt _ (by decide)⟩

theorem src_peer (c : Dev nD) (j : Fin 7) : src (peer c j) j = c := by revert c j; decide
theorem peer_src (c : Dev nD) (j : Fin 7) : peer (src c j) j = c := by revert c j; decide
theorem peer_peer_rev (c : Dev nD) (j : Fin 7) : peer (peer c j) j.rev = c := by revert c j; decide
theorem peer_ne (c : Dev nD) (j : Fin 7) : peer c j ≠ c := by revert c j; decide
theorem src_ne (c : Dev nD) (j : Fin 7) : src c j ≠ c := by revert c j; decide
theorem peer_injective (c : Dev nD) : Function.Injective (peer c) := by revert c; decide
theorem src_injective (c : Dev nD) : Function.Injective (src c) := by revert c; decide
theorem peer_eq_iff (d c : Dev nD) (j : Fin 7) : peer d j = c ↔ d = src c j := by revert d c j; decide

theorem dev_sig (c : Dev nD) :
    (⟨k0_dev1 c, k0_dev1_lt c⟩ : Dev nD) = peer c 0 ∧ (⟨k0_dev2 c, k0_dev2_lt c⟩ : Dev nD) = peer c 1
    ∧ (⟨k0_dev3 c, k0_dev3_lt c⟩ : Dev nD) = peer c 2 ∧ (⟨k0_dev4 c, k0_dev4_lt c⟩ : Dev nD) = peer c 3
    ∧ (⟨k0_dev5 c, k0_dev5_lt c⟩ : Dev nD) = peer c 4 ∧ (⟨k0_dev6 c, k0_dev6_lt c⟩ : Dev nD) = peer c 5
    ∧ (⟨k0_dev7 c, k0_dev7_lt c⟩ : Dev nD) = peer c 6 := by
  revert c; decide +kernel
theorem dev_m (c : Dev nD) :
    (⟨k0_dev8 c, k0_dev8_lt c⟩ : Dev nD) = peer c 0 ∧ (⟨k0_dev9 c, k0_dev9_lt c⟩ : Dev nD) = peer c 1
    ∧ (⟨k0_dev10 c, k0_dev10_lt c⟩ : Dev nD) = peer c 2 ∧ (⟨k0_dev11 c, k0_dev11_lt c⟩ : Dev nD) = peer c 3
    ∧ (⟨k0_dev12 c, k0_dev12_lt c⟩ : Dev nD) = peer c 4 ∧ (⟨k0_dev13 c, k0_dev13_lt c⟩ : Dev nD) = peer c 5
    ∧ (⟨k0_dev14 c, k0_dev14_lt c⟩ : Dev nD) = peer c 6 := by
  revert c; decide +kernel
theorem dev_s (c : Dev nD) :
    (⟨k0_dev15 c, k0_dev15_lt c⟩ : Dev nD) = peer c 0 ∧ (⟨k0_dev16 c, k0_dev16_lt c⟩ : Dev nD) = peer c 1
    ∧ (⟨k0_dev17 c, k0_dev17_lt c⟩ : Dev nD) = peer c 2 ∧ (⟨k0_dev18 c, k0_dev18_lt c⟩ : Dev nD) = peer c 3
    ∧ (⟨k0_dev19 c, k0_dev19_lt c⟩ : Dev nD) = peer c 4 ∧ (⟨k0_dev20 c, k0_dev20_lt c⟩ : Dev nD) = peer c 5
    ∧ (⟨k0_dev21 c, k0_dev21_lt c⟩ : Dev nD) = peer c 6 := by
  revert c; decide +kernel

/-! ## The arrays and the semaphores -/

abbrev xM : Memref sig .tc .vmem S2048x2048 .f32 := Memref.whole cc0_stg0_0
abbrev oM : Memref sig .tc .vmem S2048x2048 .f32 := Memref.whole cc0_stg1_0
/-- The array of maxima (`false`) and the array of sums (`true`). -/
abbrev bufR : Bool → Ref sig .tc | false => cc0_scratch0 | true => cc0_scratch1
abbrev bufM : Bool → Memref sig .tc .vmem S8x16x128 .f32
  | false => Memref.whole cc0_scratch0 | true => Memref.whole cc0_scratch1

/-- The runtime's barrier semaphore. -/
abbrev barS : Sem sig := (SemArray.scalar (sig.barrier 0 rfl) : Sems sig S_).sem
set_option backward.proofsInPublic true in
/-- The semaphore of the copy over `j + 1` places of array `b`: the sending side's (`false`) or the receiving one's
    (`true`). -/
def xsem (b d : Bool) (j : Fin 7) : DmaSem sig :=
  (⟨2 + 14 * b.toNat + 7 * d.toNat + j.val, by cases b <;> cases d <;> simp <;> omega⟩ : Fin 30)
/-- Which copy a semaphore belongs to: none for the two that the staging buffers use. -/
def kind (q : DmaSem sig) : Option (Bool × Bool × Fin 7) :=
  if q.val < 2 then none
  else some (decide (14 ≤ q.val - 2), decide (7 ≤ (q.val - 2) % 14), ⟨(q.val - 2) % 7, Nat.mod_lt _ (by decide)⟩)

theorem kind_xsem (b d : Bool) (j : Fin 7) : kind (xsem b d j) = some (b, d, j) := by revert b d j; decide

/-- A cell of the exchange: the barrier's, or a copy's. -/
abbrev Cel : Type := Option (Bool × Bool × Fin 7)
abbrev csem : Cel → SemLoc sig | none => .reg barS | some (b, d, j) => .dma (xsem b d j)
abbrev osem : Bool × Bool × Fin 7 → SemLoc sig := fun k => .dma (xsem k.1 k.2.1 k.2.2)
abbrev barCell (c : Dev nD) : GSem nD τ sig := ((c : Thread nD τ), .reg barS)
abbrev xCell (c : Dev nD) (b d : Bool) (j : Fin 7) : GSem nD τ sig := ((c : Thread nD τ), .dma (xsem b d j))
abbrev kcell (ck : Dev nD × Cel) : GSem nD τ sig := ((ck.1 : Thread nD τ), csem ck.2)

/-! ## The rows -/

theorem row_inb (i : Dev nD) : ∀ a, (![i.val, 0, 0] : Fin 3 → Nat) a + S1x16x128.size a ≤ S8x16x128.size a := by
  revert i; decide
/-- Row `i` of an array of eight rows, as a rectangle; -/
abbrev rowR (i : Dev nD) : Rect S8x16x128 := Rect.unit (s := S8x16x128) ![i.val, 0, 0] S1x16x128.size (row_inb i)
/-- as the memref of a copy; -/
abbrev rowM (M : Memref sig .tc .vmem S8x16x128 .f32) (i : Dev nD) : Memref sig .tc .vmem S16x128 .f32 :=
  (M.slice (rowR i) (fun _ => rfl)).squeeze S16x128 squeezes_S1x16x128_S16x128

/-- The number of units a copy of one row pays. -/
abbrev N : ℕ := (rowM (bufM false) 0).view.dmaCredit
theorem N_pos : 0 < N := View.dmaCredit_pos _ (by decide)

theorem mem_rowR (i : Dev nD) (x : S8x16x128.Idx) : x ∈ (rowR i).set ↔ x 0 = i := by
  rw [Rect.mem_set_unit]
  constructor
  · intro h
    have h0 := h 0
    simp at h0
    exact Fin.ext (by omega)
  · rintro rfl a
    have h1 := (x 1).isLt
    have h2 := (x 2).isLt
    fin_cases a
    · constructor
      · exact le_refl _
      · exact Nat.lt_succ_self _
    · exact ⟨Nat.zero_le _, by simpa using h1⟩
    · exact ⟨Nat.zero_le _, by simpa using h2⟩

theorem row_set (b : Bool) (i : Dev nD) : (rowM (bufM b) i).view.set = ((rowR i).set.map (bufM b).view.emb) := by
  rw [Memref.set_view_squeeze]; exact View.set_slice _ _
theorem mem_row (b : Bool) (i : Dev nD) (x : S8x16x128.Idx) : (bufM b).view.emb x ∈ (rowM (bufM b) i).view.set ↔ x 0 = i := by
  rw [row_set, Finset.mem_map' (bufM b).view.emb, mem_rowR]
theorem whole_set (b : Bool) : (bufM b).view.set = Finset.univ := by cases b <;> exact View.set_whole _
theorem emb_surj (b : Bool) (y : (bufM b).view.ty.Idx) : ∃ x, (bufM b).view.emb x = y := by
  cases b <;> exact ⟨y, rfl⟩

/-- Row `i` of array `b` on device `c`, held at share `q`, at contents `f`. -/
def rowPts (c : Dev nD) (b : Bool) (i : Dev nD) (q : PosShare TreeShare) (f : Buf (Elt F) ((bufM b).view.loc (c : Thread nD τ))) : sProp 𝕄 :=
  (bufM b).view.loc (c : Thread nD τ) ↦[(rowM (bufM b) i).view.set]{q} f
/-- The whole of array `b` on device `c`, held at share `q`, at contents `f`. -/
def allPts (c : Dev nD) (b : Bool) (q : PosShare TreeShare) (f : Buf (Elt F) ((bufM b).view.loc (c : Thread nD τ))) : sProp 𝕄 :=
  (bufM b).view.loc (c : Thread nD τ) ↦[(bufM b).view.set]{q} f

instance rowPts_storable (c : Dev nD) (b : Bool) (i : Dev nD) (q f) : BI.Storable (upEmb : UEmb _ 𝕄) (rowPts (F := F) c b i q f) := by
  unfold rowPts; infer_instance

/-- The rows of an array make up the array. -/
theorem allPts_rows (c : Dev nD) (b : Bool) (q : PosShare TreeShare) (f : Buf (Elt F) ((bufM b).view.loc (c : Thread nD τ))) :
    allPts c b q f = bigSep Finset.univ fun i : Dev nD => rowPts (F := F) c b i q f := by
  unfold allPts rowPts
  rw [show (bufM b).view.set = Finset.univ.biUnion fun i : Dev nD => (rowM (bufM b) i).view.set from ?_, pointsTo_biUnion]
  · intro i _ k _ hik
    refine Finset.disjoint_left.mpr fun y hi hk => hik ?_
    obtain ⟨x, rfl⟩ := emb_surj b y
    exact ((mem_row b i x).mp hi).symm.trans ((mem_row b k x).mp hk)
  · rw [whole_set]
    ext y
    obtain ⟨x, rfl⟩ := emb_surj b y
    simp only [Finset.mem_univ, Finset.mem_biUnion, true_and, true_iff]
    exact ⟨x 0, (mem_row b (x 0) x).mpr rfl⟩

/-- A family over the eight devices is its member at `c` and its members at seven others. -/
theorem bigSep_around (σ : Fin 7 → Dev nD) (hσ : Function.Injective σ) (c : Dev nD) (hc : ∀ j, σ j ≠ c) (Φ : Dev nD → sProp 𝕄) :
    bigSep Finset.univ Φ = iprop(Φ c ∗ bigSep Finset.univ fun j : Fin 7 => Φ (σ j)) := by
  have hnot : c ∉ Finset.univ.map ⟨σ, hσ⟩ := by
    intro h
    obtain ⟨j, -, hj⟩ := Finset.mem_map.mp h
    exact hc j hj
  have hall : (Finset.univ : Finset (Dev nD)) = insert c (Finset.univ.map ⟨σ, hσ⟩) := by
    symm
    apply Finset.eq_univ_of_card
    rw [Finset.card_insert_of_notMem hnot, Finset.card_map, Finset.card_univ, Fintype.card_fin, Fintype.card_fin]
  rw [hall, bigSep_insert hnot, bigSep_map]
  rfl

/-! ## What the arrays hold -/

open Idealize.ShloMosaic.ValueIdx (ix3) in
/-- An index of one row. -/
abbrev rowIx (i : S8x16x128.Idx) : S1x16x128.Idx := ix3 0 (i 1) (i 2)

/-- The 512 rows of a block that begin at row `o`. -/
abbrev chk (o : Nat) (h : ∀ a, (![o, 0] : Fin 2 → Nat) a + S512x2048.size a ≤ S2048x2048.size a)
    (x : (cc0_stg0_0 : Ref sig .tc).ty.Contents (Elt F)) : Vec F S512x2048 .f32 :=
  (xM : Memref sig .tc .vmem S2048x2048 .f32).view.readAt (Elt F) (Rect.unit (s := S2048x2048) ![o, 0] S512x2048.size h).toLoadRect x
abbrev ch0 (x : (cc0_stg0_0 : Ref sig .tc).ty.Contents (Elt F)) := chk 0 inb_S2048x2048_S512x2048_0_0 x
abbrev ch1 (x : (cc0_stg0_0 : Ref sig .tc).ty.Contents (Elt F)) := chk 512 inb_S2048x2048_S512x2048_512_0 x
abbrev ch2 (x : (cc0_stg0_0 : Ref sig .tc).ty.Contents (Elt F)) := chk 1024 inb_S2048x2048_S512x2048_1024_0 x
abbrev ch3 (x : (cc0_stg0_0 : Ref sig .tc).ty.Contents (Elt F)) := chk 1536 inb_S2048x2048_S512x2048_1536_0 x

/-- The row of maxima that a device with block `x` fills; -/
def mRow (x : (cc0_stg0_0 : Ref sig .tc).ty.Contents (Elt F)) : FVec F S1x16x128 .f32 := k0_pay5 (ch0 x) (ch1 x) (ch2 x) (ch3 x)
/-- and the row of sums. -/
def sRow (x : (cc0_stg0_0 : Ref sig .tc).ty.Contents (Elt F)) : FVec F S1x16x128 .f32 :=
  k0_pay8 (k0_pay2 (ch1 x)) (k0_pay3 (ch2 x)) (k0_pay4 (ch3 x)) (k0_pay6 (ch0 x)) (k0_pay7 (k0_pay1 (ch0 x))) (ch1 x) (ch2 x) (ch3 x)

variable (X : Dev nD → (cc0_stg0_0 : Ref sig .tc).ty.Contents (Elt F))

/-- The array of maxima once every row has arrived: row `i` is device `i`'s. The same on every device; -/
def mVal : S8x16x128.Idx → F .f32 := fun i => mRow (X (i 0)) (rowIx i)
/-- and the array of sums. -/
def sVal : S8x16x128.Idx → F .f32 := fun i => sRow (X (i 0)) (rowIx i)
/-- Both, as contents of the buffers of device `c`. -/
def val (b : Bool) (c : Dev nD) : Buf (Elt F) ((bufM b).view.loc (c : Thread nD τ)) :=
  match b with
  | false => mVal X
  | true => sVal X

/-! ## The schedule -/

/-- What a device's barrier hands it with duty `d`: its own rows in the arrays of the device `d + 1` places after it. -/
def barPay (p : Dev nD) (d : Fin 7) : sProp 𝕄 :=
  iprop((∃ f, rowPts (F := F) (peer p d) false p fullShare f) ∗ ∃ f, rowPts (F := F) (peer p d) true p fullShare f)
/-- What the receiving side of a copy is handed: the sender's row, filled; -/
def recvPay (c : Dev nD) (b : Bool) (j : Fin 7) : sProp 𝕄 := rowPts c b (src c j) fullShare (val X b c)
/-- what the sending side is handed back: the share of its own row that the copy read. -/
def sendPay (c : Dev nD) (b : Bool) (j : Fin 7) : sProp 𝕄 := rowPts c b c (shareTok fullShare 7 j) (val X b c)
/-- Either. -/
def copyPay (c : Dev nD) (b d : Bool) (j : Fin 7) : sProp 𝕄 := if d then recvPay X c b j else sendPay X c b j

/-- One round: a device's barrier is raised once by each of the others, and each semaphore of a copy once, by the units
    of the copy. -/
def xRd : Rounds.Schedule (GSem nD τ sig) (Fin 7) 𝕄 where
  duties g r :=
    if r = 0 ∧ g.1.2 = .tc then
      match g.2 with
      | .reg s => if s = barS then Finset.univ else ∅
      | .dma q => if (kind q).isSome then {0} else ∅
    else ∅
  unitless _ := False
  amount g _ _ := match g.2 with | .reg _ => 1 | .dma _ => N
  payload g _ d :=
    match g.2 with
    | .reg _ => barPay g.1.1 d
    | .dma q => match kind q with
      | none => iprop(emp)
      | some (b, d', j) => copyPay X g.1.1 b d' j
  amount_pos g _ _ _ := by
    split
    · exact Nat.one_pos
    · exact N_pos

instance xRd_payload_storable (g : GSem nD τ sig) (r : ℕ) (d : Fin 7) :
    BI.Storable (upEmb : UEmb _ 𝕄) ((xRd (F := F) X).payload g r d) := by
  dsimp only [xRd]
  unfold barPay copyPay recvPay sendPay
  (repeat' split) <;> infer_instance

section Sched
variable (c : Dev nD) (b d : Bool) (j : Fin 7)

theorem duties_bar : (xRd X).duties (barCell c) 0 = Finset.univ := by
  dsimp only [xRd]; rw [if_pos ⟨rfl, rfl⟩]; exact if_pos rfl
theorem duties_x : (xRd X).duties (xCell c b d j) 0 = {0} := by
  dsimp only [xRd]; rw [if_pos ⟨rfl, rfl⟩, kind_xsem]; rfl
theorem duties_later (g : GSem nD τ sig) : ∀ r, 1 ≤ r → (xRd X).duties g r = ∅ :=
  fun r hr => by dsimp only [xRd]; exact if_neg fun h => by omega
theorem amount_bar (k : Fin 7) : (xRd X).amount (barCell c) 0 k = 1 := rfl
theorem amount_x (k : Fin 7) : (xRd X).amount (xCell c b d j) 0 k = N := rfl
theorem expect_bar : (xRd X).expect (barCell c) 0 = 7 := by
  unfold Schedule.expect Schedule.amountOf
  rw [duties_bar, Finset.sum_congr rfl fun k _ => amount_bar X c k, Finset.sum_const, Finset.card_univ, Fintype.card_fin, smul_eq_mul]
theorem expect_x : (xRd X).expect (xCell c b d j) 0 = N := by
  unfold Schedule.expect Schedule.amountOf; rw [duties_x, Finset.sum_singleton, amount_x]
theorem payload_bar (k : Fin 7) : (xRd X).payload (barCell c) 0 k = barPay c k := rfl
theorem payload_x (k : Fin 7) : (xRd X).payload (xCell c b d j) 0 k = copyPay X c b d j := by
  dsimp only [xRd]; rw [kind_xsem]
theorem rest_bar : bigSep ((xRd X).duties (barCell c) 0 \ ∅) (fun k => (xRd X).payload (barCell c) 0 k)
    = bigSep Finset.univ fun k : Fin 7 => barPay (F := F) c k := by
  rw [Finset.sdiff_empty, duties_bar]; rfl
theorem rest_x : bigSep ((xRd X).duties (xCell c b d j) 0 \ ∅) (fun k => (xRd X).payload (xCell c b d j) 0 k) = copyPay X c b d j := by
  rw [Finset.sdiff_empty, duties_x, bigSep_singleton, payload_x]

end Sched

/-! ## What a device owes, and the levels -/

/-- The debt a device settles when `r` others remain: the last seven are the copies of the sums, the seven before them
    the copies of the maxima, and the first seven the barrier's signals. -/
def debt (c : Dev nD) (r : ℕ) : GSem nD τ sig × ℕ :=
  if 14 ≤ r then (barCell (peer c ⟨(20 - r) % 7, Nat.mod_lt _ (by decide)⟩), 1)
  else if 7 ≤ r then (xCell (peer c ⟨(13 - r) % 7, Nat.mod_lt _ (by decide)⟩) false true ⟨(13 - r) % 7, Nat.mod_lt _ (by decide)⟩, N)
  else (xCell (peer c ⟨(6 - r) % 7, Nat.mod_lt _ (by decide)⟩) true true ⟨(6 - r) % 7, Nat.mod_lt _ (by decide)⟩, N)
/-- The last `r` debts of device `c`, summed. -/
def owe (c : Dev nD) : ℕ → CellTallies nD τ sig Unit
  | 0 => 0
  | r + 1 => owe c r + tallyAt (debt c r).1 () (debt c r).2

theorem debt_bar (c : Dev nD) (j : Fin 7) : debt c (20 - j.val) = (barCell (peer c j), 1) := by
  have hj := j.isLt
  have h : (⟨(20 - (20 - j.val)) % 7, Nat.mod_lt _ (by decide)⟩ : Fin 7) = j := Fin.ext (by show (20 - (20 - j.val)) % 7 = j.val; omega)
  unfold debt
  rw [if_pos (by omega), h]
theorem debt_m (c : Dev nD) (j : Fin 7) : debt c (13 - j.val) = (xCell (peer c j) false true j, N) := by
  have hj := j.isLt
  have h : (⟨(13 - (13 - j.val)) % 7, Nat.mod_lt _ (by decide)⟩ : Fin 7) = j := Fin.ext (by show (13 - (13 - j.val)) % 7 = j.val; omega)
  unfold debt
  rw [if_neg (by omega), if_pos (by omega), h]
theorem debt_s (c : Dev nD) (j : Fin 7) : debt c (6 - j.val) = (xCell (peer c j) true true j, N) := by
  have hj := j.isLt
  have h : (⟨(6 - (6 - j.val)) % 7, Nat.mod_lt _ (by decide)⟩ : Fin 7) = j := Fin.ext (by show (6 - (6 - j.val)) % 7 = j.val; omega)
  unfold debt
  rw [if_neg (by omega), if_neg (by omega), h]

/-- Something owed is one of the debts. -/
theorem owe_pos {c : Dev nD} {n : ℕ} {g : GSem nD τ sig} {u : Unit} (h : 0 < owe c n g u) : ∃ r < n, g = (debt c r).1 := by
  induction n with
  | zero => exact absurd h (Nat.lt_irrefl 0)
  | succ n ih =>
    unfold owe at h
    rw [Pi.add_apply, Finsupp.add_apply, tallyAt_apply] at h
    by_cases hg : g = (debt c n).1
    · exact ⟨n, Nat.lt_succ_self n, hg⟩
    · rw [if_neg fun h' => hg h'.1, Nat.add_zero] at h
      obtain ⟨r, hr, e⟩ := ih h
      exact ⟨r, Nat.lt_succ_of_lt hr, e⟩

def L (g : GSem nD τ sig) : Finset Unit := if g.1.2 = .tc then {()} else ∅
/-- The barrier cells lie at 1, the receiving cells at 2, and everything else at 0. -/
def lv (g : GSem nD τ sig) (_ : Unit) : ℕ :=
  match g.2 with
  | .reg _ => 1
  | .dma q => match kind q with
    | some (_, true, _) => 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem debt_tc (c : Dev nD) (r : ℕ) : (debt c r).1.1.2 = .tc := by
  unfold debt; (repeat' split) <;> rfl
theorem lv_x (c : Dev nD) (b d : Bool) (j : Fin 7) (u : Unit) : lv (xCell c b d j) u = if d then 2 else 0 := by
  dsimp only [lv]; rw [kind_xsem]; cases d <;> rfl
theorem lv_debt (c : Dev nD) (r : ℕ) (u : Unit) : lv (debt c r).1 u = if 14 ≤ r then 1 else 2 := by
  unfold debt
  split
  · rfl
  · split <;> exact lv_x _ _ _ _ _

/-- A device may wait for a cell below everything it owes. -/
theorem mayWait_of (c : Dev nD) (sm : SemLoc sig) (n : ℕ) (h : ∀ r < n, lv ((c : Thread nD τ), sm) () < lv (debt c r).1 ()) :
    (levAts L lv : sProp 𝕄) ⊢ MayWait (c : Thread nD τ) sm () (owe c n) :=
  MayOwe.of_cut (L := L) (lev := lv) (lv ((c : Thread nD τ), sm) ())
    (fun p hp => by rw [Finset.mem_singleton.mp hp, L_tc]; exact Finset.mem_singleton_self _)
    (fun g u hg => by
      obtain ⟨r, -, rfl⟩ := owe_pos hg
      rw [show L (debt c r).1 = {()} from if_pos (debt_tc c r)]; exact Finset.mem_singleton_self _)
    (fun p hp => by rw [Finset.mem_singleton.mp hp])
    (fun g u hg => by
      obtain ⟨r, hr, rfl⟩ := owe_pos hg
      exact h r hr)

/-- At the barrier it owes the fourteen copies, -/
theorem mayWait_bar (c : Dev nD) : (levAts L lv : sProp 𝕄) ⊢ MayWait (c : Thread nD τ) (.reg barS) () (owe c 14) :=
  mayWait_of c _ 14 fun r hr => by rw [lv_debt, if_neg (by omega)]; exact Nat.one_lt_two
/-- and for a staging buffer it may wait whatever it owes. -/
theorem mayWait_stage (c : Dev nD) (q : DmaSem sig) (hq : kind q = none) (n : ℕ) :
    (levAts L lv : sProp 𝕄) ⊢ MayWait (c : Thread nD τ) (.dma q) () (owe c n) :=
  mayWait_of c _ n fun r _ => by
    rw [lv_debt]; dsimp only [lv]; rw [hq]; dsimp only
    split <;> decide

end Cert.KernelIdeal.Softmax

end
-- ==== Proof.KernelIdeal.Steps.lean ====
/-
# The steps of the exchange

Each effect of the exchange, once: a signal to another device's barrier, the wait at one's own, a copy of one's own row
to another device, and the wait for a copy. A phase is seven such steps, one for each distance; its resources are held
as one family over the distances, of which the first so many have been spent.
-/
module

public import proofs.«01_k».proof.Proof.KernelIdeal.Protocol

@[expose] public section

noncomputable section

namespace Cert.KernelIdeal.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)

variable {F : FTy → Type} [FloatOps F]

local notation "𝕄" => MT nD τ sig Unit (Elt F) ℕ UU ℕ

abbrev 𝒱₀ : Variants := Variants.none

/-! ## Phases -/

/-- A phase of which the distances below `n` are done: those at `Ψ`, the others still at `Φ`. -/
def ph (Φ Ψ : Fin 7 → sProp 𝕄) (n : ℕ) : sProp 𝕄 :=
  bigSep Finset.univ fun j : Fin 7 => if j.val < n then Ψ j else Φ j

theorem ph_zero (Φ Ψ : Fin 7 → sProp 𝕄) : ph Φ Ψ 0 = bigSep Finset.univ Φ := by
  unfold ph; exact bigSep_congr fun j _ => if_neg (Nat.not_lt_zero _)
theorem ph_seven (Φ Ψ : Fin 7 → sProp 𝕄) : ph Φ Ψ 7 = bigSep Finset.univ Ψ := by
  unfold ph; exact bigSep_congr fun j _ => if_pos j.isLt
/-- One step of a phase: the next distance's resources, and the way on once they are spent. -/
theorem ph_step (Φ Ψ : Fin 7 → sProp 𝕄) (j : Fin 7) : ph Φ Ψ j.val ⊢ iprop(Φ j ∗ (Ψ j -∗ ph Φ Ψ (j.val + 1))) := by
  have e : ∀ n, ph Φ Ψ n = iprop((if j.val < n then Ψ j else Φ j) ∗ bigSep (Finset.univ.erase j) fun i : Fin 7 => if i.val < n then Ψ i else Φ i) :=
    fun n => by unfold ph; exact bigSep_erase (Finset.mem_univ j)
  have e' : (bigSep (Finset.univ.erase j) fun i : Fin 7 => if i.val < j.val then Ψ i else Φ i)
      = bigSep (Finset.univ.erase j) fun i : Fin 7 => if i.val < j.val + 1 then Ψ i else Φ i :=
    bigSep_congr fun i hi => by
      have hne : i.val ≠ j.val := fun h => (Finset.mem_erase.mp hi).1 (Fin.ext h)
      by_cases h : i.val < j.val
      · rw [if_pos h, if_pos (by omega)]
      · rw [if_neg h, if_neg (by omega)]
  rw [e j.val, e (j.val + 1), if_neg (lt_irrefl _), if_pos (Nat.lt_succ_self _), e']
  iintro ⟨HA, HB⟩
  isplitl [HA]; · iexact HA
  iintro HC
  isplitl [HC]; · iexact HC
  iexact HB

/-! ## The records -/

variable (X : Dev nD → (cc0_stg0_0 : Ref sig .tc).ty.Contents (Elt F)) (K : Dev nD × Cel → ℕ)

/-- Every cell's invariant, and that every cell has reached its one round. -/
def records : sProp 𝕄 :=
  bigSep Finset.univ fun ck : Dev nD × Cel => iprop(cellInv EX (xRd X) (K ck) (kcell ck) ∗ reached EX (kcell ck) 0)

instance records_persistent : BI.Persistent (records X K) := by unfold records; infer_instance

theorem records_at (ck : Dev nD × Cel) :
    records X K ⊢ iprop(cellInv EX (xRd X) (K ck) (kcell ck) ∗ reached EX (kcell ck) 0) := by
  unfold records; exact bigSep_elim (Finset.mem_univ ck)

/-- What a device owes while `n` debts remain, whatever it has waited for. -/
def owesW (c : Dev nD) (n : ℕ) : sProp 𝕄 := iprop(∃ W, owes (c : Thread nD τ) (owe c n) W)

theorem owe_bar (c : Dev nD) (j : Fin 7) : owe c (20 - j.val + 1) = owe c (20 - j.val) + tallyAt (barCell (peer c j)) () 1 := by
  rw [owe, debt_bar]
theorem owe_x (c : Dev nD) (b : Bool) (j : Fin 7) :
    owe c ((bif b then 6 else 13) - j.val + 1) = owe c ((bif b then 6 else 13) - j.val) + tallyAt (xCell (peer c j) b true j) () N := by
  cases b
  · rw [owe]; show owe c (13 - j.val) + tallyAt (debt c (13 - j.val)).1 () (debt c (13 - j.val)).2 = _; rw [debt_m]; rfl
  · rw [owe]; show owe c (6 - j.val) + tallyAt (debt c (6 - j.val)).1 () (debt c (6 - j.val)).2 = _; rw [debt_s]; rfl

/-! ## The barrier -/

/-- For a signal: the token of the duty, and the rows it hands over. -/
def sigΦ (c : Dev nD) (j : Fin 7) : sProp 𝕄 :=
  iprop(dutyTok EX (barCell (peer c j)) 0 j.rev ∗ barPay (peer c j) j.rev)

set_option maxHeartbeats 1000000 in
/-- The signal to the device `j + 1` places on. -/
theorem sig_step (c : Dev nD) (j : Fin 7) (n : Dev nD) (hn : n = peer c j) (p p' r r' : ℕ) (hp : p = j.val) (hp' : p' = j.val + 1)
    (hr : r = 20 - j.val + 1) (hr' : r' = 20 - j.val) (k' : ℕ) (hk' : k' = 1)
    {α : Type} {Q : α → sProp 𝕄} {k : PUnit → Prog (TpuEff nD τ sig (Elt F) Λ₀ .tc) α} :
    iprop(records X K ∗ ph (sigΦ c) (fun _ => iprop(emp)) p ∗ owesW c r)
      ⊢ iprop(((records X K ∗ ph (sigΦ c) (fun _ => iprop(emp)) p' ∗ owesW c r')
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS k') k) Q) := by
  subst hn hp hp' hr hr' hk'
  iintro ⟨#HR, HP, HO⟩ Hk
  unfold owesW
  icases HO with ⟨%W, HO⟩
  ihave HP' := (ph_step (sigΦ c) (fun _ => iprop(emp)) j) $$ HP
  icases HP' with ⟨HA, HP⟩
  unfold sigΦ
  icases HA with ⟨Ht, Hpay⟩
  ihave HI := (records_at X K (peer c j, none)) $$ HR
  icases HI with ⟨#HI, #Hre⟩
  iapply (Rounds.wp_signal 𝒱₀ EX (xRd X) (c : Thread nD τ) none (dst := (peer c j : Thread nD τ)) (κ := K (peer c j, none))
      (d := j.rev) (by rw [duties_bar]; exact Finset.mem_univ _) (amount_bar X (peer c j) j.rev) () (owe c (20 - j.val))
      (owe_bar c j)) $$ [HO Ht Hpay]
  · isplitr; · iexact HI
    isplitl [HO]; · iexact HO
    isplitl [Ht]; · iexact Ht
    isplitl [Hpay]; · rw [payload_bar]; iexact Hpay
    iexact Hre
  iintro HO
  iapply Hk
  isplitr; · iexact HR
  isplitl [HP]
  · iapply HP; iempintro
  iexists W; iexact HO

/-- The wait at one's own barrier: the rows of the seven others that the device will write come with it. -/
theorem bar_step (c : Dev nD) (k' : ℕ) (hk' : k' = 7)
    {α : Type} {Q : α → sProp 𝕄} {k : PUnit → Prog (TpuEff nD τ sig (Elt F) Λ₀ .tc) α} :
    iprop(records X K ∗ levAts L lv ∗ cred (tallyAt (barCell c) () 7) ∗ atPos EX (barCell c) 0 ∅ 0 ∗ owesW c 14)
      ⊢ iprop(((records X K ∗ atPos EX (barCell c) 1 ∅ 0 ∗ owesW c 14 ∗ bigSep Finset.univ fun j : Fin 7 => barPay (F := F) c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, #Hlev, Hc, Hat, HO⟩ Hk
  unfold owesW
  icases HO with ⟨%W, HO⟩
  ihave HI := (records_at X K (c, none)) $$ HR
  icases HI with ⟨#HI, #Hre⟩
  iapply (Rounds.wp_wait_rest_token 𝒱₀ EX (xRd X) (c : Thread nD τ) none (κ := K (c, none))
      (wpE_semWait_eq 𝒱₀ (c : Thread nD τ) none Set.univ) (Set.mem_univ _) () (O := owe c 14) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  iapply Hk
  isplitr; · iexact HR
  isplitl [Hat]; · iexact Hat
  isplitl [HO]; · iexists _; iexact HO
  iexact Hp

/-! ## A copy -/

/-- For a copy: the row it writes on the other device, the share of one's own row that it reads, and the tokens of its
    two duties. -/
def sendΦ (c : Dev nD) (b : Bool) (j : Fin 7) : sProp 𝕄 :=
  iprop((∃ f, rowPts (F := F) (peer c j) b c fullShare f) ∗ rowPts c b c (shareTok fullShare 7 j) (val X b c)
    ∗ dutyTok EX (xCell c b false j) 0 0 ∗ dutyTok EX (xCell (peer c j) b true j) 0 0)
/-- After it: the credit to wait for its sending side. -/
def sendΨ (c : Dev nD) (b : Bool) (j : Fin 7) : sProp 𝕄 := cred (tallyAt (xCell c b false j) () N)

theorem amount_row (b : Bool) (i : Dev nD) (s : SemLoc sig) (q : DmaSem sig) (hs : s = .dma q) : (rowM (bufM b) i).view.amount s = N := by
  subst hs; cases b <;> rfl

/-- What a copy leaves in the row it writes is what the row it reads held. -/
theorem landed (b : Bool) (c n : Dev nD) (f : Buf (Elt F) ((bufM b).view.loc (n : Thread nD τ))) :
    ((rowM (bufM b) c).view.loc (n : Thread nD τ) ↦[(rowM (bufM b) c).view.set]{fullShare}
        (rowM (bufM b) c).view.write (Elt F) f ((rowM (bufM b) c).view.read (Elt F) (val X b c)) Finset.univ : sProp 𝕄)
      = rowPts n b c fullShare (val X b n) := by
  unfold rowPts
  refine pointsTo_congr fun i hi => ?_
  have e : val X b c = (val X b n : (rowM (bufM b) c).view.ty.Contents (Elt F)) := by cases b <;> rfl
  rw [View.write_read_eq_piecewise, View.setOn_univ, Finset.piecewise_eq_of_mem _ _ _ hi]
  exact congrFun e i

set_option maxHeartbeats 1000000 in
/-- The copy of one's own row to the device `j + 1` places on. -/
theorem send_step (b : Bool) (c : Dev nD) (j : Fin 7) (n : Dev nD) (hn : n = peer c j) (o : Fin 3 → Nat) (ho : o = ![c.val, 0, 0])
    (hi : ∀ a, o a + S1x16x128.size a ≤ S8x16x128.size a) (s₁ s₂ : DmaSem sig) (h₁ : s₁ = xsem b false j) (h₂ : s₂ = xsem b true j)
    (p p' r r' : ℕ) (hp : p = j.val) (hp' : p' = j.val + 1)
    (hr : r = (bif b then 6 else 13) - j.val + 1) (hr' : r' = (bif b then 6 else 13) - j.val)
    {hsc : (((bufM b).slice (Rect.unit (s := S8x16x128) o S1x16x128.size hi) (fun _ => rfl)).squeeze S16x128 squeezes_S1x16x128_S16x128
      : Memref sig (Dev.tc n : Thread nD τ).2.kind .vmem S16x128 .f32).view.ref.isScScratch = false}
    {hsrc : (((bufM b).slice (Rect.unit (s := S8x16x128) o S1x16x128.size hi) (fun _ => rfl)).squeeze S16x128 squeezes_S1x16x128_S16x128).view.WordExact}
    {hdst : (((bufM b).slice (Rect.unit (s := S8x16x128) o S1x16x128.size hi) (fun _ => rfl)).squeeze S16x128 squeezes_S1x16x128_S16x128).view.WordExact}
    {hsem : DmaTarget.Typed .vmem (.dma s₂) (.remote (Dev.tc n : Thread nD τ)
      (((bufM b).slice (Rect.unit (s := S8x16x128) o S1x16x128.size hi) (fun _ => rfl)).squeeze S16x128 squeezes_S1x16x128_S16x128) (.dma s₁) hsc)}
    {α : Type} {Q : α → sProp 𝕄} {k : PUnit → Prog (TpuEff nD τ sig (Elt F) Λ₀ .tc) α} :
    iprop(records X K ∗ ph (sendΦ X c b) (sendΨ c b) p ∗ owesW c r)
      ⊢ iprop(((records X K ∗ ph (sendΦ X c b) (sendΨ c b) p' ∗ owesW c r')
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((bufM b).slice (Rect.unit (s := S8x16x128) o S1x16x128.size hi) (fun _ => rfl)).squeeze S16x128 squeezes_S1x16x128_S16x128)
                (.remote (Dev.tc n : Thread nD τ)
                  (((bufM b).slice (Rect.unit (s := S8x16x128) o S1x16x128.size hi) (fun _ => rfl)).squeeze S16x128 squeezes_S1x16x128_S16x128) (.dma s₁) hsc)
                (.dma s₂) hsrc hdst hsem) k) Q) := by
  subst hn ho h₁ h₂ hp hp' hr hr'
  iintro ⟨#HR, HP, HO⟩ Hk
  unfold owesW
  icases HO with ⟨%W, HO⟩
  ihave HP' := (ph_step (sendΦ X c b) (sendΨ c b) j) $$ HP
  icases HP' with ⟨HA, HP⟩
  unfold sendΦ
  icases HA with ⟨⟨%f, Hd⟩, Hs, Ht₁, Ht₂⟩
  ihave HI₁ := (records_at X K (c, some (b, false, j))) $$ HR
  icases HI₁ with ⟨#HI₁, #Hre₁⟩
  ihave HI₂ := (records_at X K (peer c j, some (b, true, j))) $$ HR
  icases HI₂ with ⟨#HI₂, #Hre₂⟩
  iapply (Rounds.wp_send_pointsTo 𝒱₀ EX (xRd X) (c : Thread nD τ) none (c' := (peer c j : Thread nD τ))
      (src := rowM (bufM b) c) (dst := rowM (bufM b) c) (fs := val X b c) (fd := f) (q := shareTok fullShare 7 j)
      (κ₁ := K (c, some (b, false, j))) (κ₂ := K (peer c j, some (b, true, j)))
      (r₁ := 0) (r₂ := 0) (d₁ := 0) (d₂ := 0)
      (by rw [duties_x]; exact Finset.mem_singleton_self _) (by rw [duties_x]; exact Finset.mem_singleton_self _)
      () () N (amount_row b c _ _ rfl) (amount_x X c b false j 0) (amount_x X (peer c j) b true j 0)
      (owe c ((bif b then 6 else 13) - j.val))
      (owe_x c b j) (W := W)
      (by rw [payload_x]; exact BI.Entails.refl _)
      (by rw [payload_x, landed X b c (peer c j) f]; unfold copyPay recvPay; rw [if_pos rfl, src_peer])) $$ [HO Hd Hs Ht₁ Ht₂]
  · isplitr; · iexact HI₁
    isplitr; · iexact HI₂
    isplitl [Hs]; · unfold rowPts; iexact Hs
    isplitl [Hd]; · unfold rowPts; iexact Hd
    isplitl [HO]; · iexact HO
    isplitl [Ht₁]; · iexact Ht₁
    isplitr; · iexact Hre₁
    isplitl [Ht₂]; · iexact Ht₂
    iexact Hre₂
  iintro ⟨Hcr, HO⟩
  iapply Hk
  isplitr; · iexact HR
  isplitl [HP Hcr]
  · iapply HP; unfold sendΨ; iexact Hcr
  iexists W; iexact HO

/-! ## The wait for a copy -/

/-- For the wait at a copy's semaphore: the credit and the position; -/
def waitΦ (c : Dev nD) (b d : Bool) (j : Fin 7) : sProp 𝕄 :=
  iprop(cred (tallyAt (xCell c b d j) () N) ∗ atPos EX (xCell c b d j) 0 ∅ 0)
/-- after it: the position past the round, and what the copy hands over. -/
def waitΨ (c : Dev nD) (b d : Bool) (j : Fin 7) : sProp 𝕄 :=
  iprop(atPos EX (xCell c b d j) 1 ∅ 0 ∗ copyPay X c b d j)

/-- The wait at the semaphore of a copy over `j + 1` places, everything owed settled. -/
theorem wait_step (b d : Bool) (c : Dev nD) (j : Fin 7) (p p' : ℕ) (hp : p = j.val) (hp' : p' = j.val + 1) (s : DmaSem sig) (hs : s = xsem b d j)
    {m₁ m₂ : Memref sig .tc .vmem S16x128 .f32} {hsrc : m₁.view.WordExact} {hdst : m₂.view.WordExact}
    {α : Type} {Q : α → sProp 𝕄} {k : PUnit → Prog (TpuEff nD τ sig (Elt F) Λ₀ .tc) α} :
    iprop(records X K ∗ ph (waitΦ c b d) (waitΨ X c b d) p ∗ owesW c 0)
      ⊢ iprop(((records X K ∗ ph (waitΦ c b d) (waitΨ X c b d) p' ∗ owesW c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s m₁ m₂ hsrc hdst) k) Q) := by
  have hm : m₂.view.dmaCredit = N := rfl
  subst hs hp hp'
  iintro ⟨#HR, HP, HO⟩ Hk
  unfold owesW
  icases HO with ⟨%W, HO⟩
  ihave HP' := (ph_step (waitΦ c b d) (waitΨ X c b d) j) $$ HP
  icases HP' with ⟨HA, HP⟩
  unfold waitΦ
  icases HA with ⟨Hcr, Hat⟩
  ihave HI := (records_at X K (c, some (b, d, j))) $$ HR
  icases HI with ⟨#HI, #Hre⟩
  iapply (Rounds.wp_wait_rest_token 𝒱₀ EX (xRd X) (c : Thread nD τ) none (κ := K (c, some (b, d, j)))
      (wpE_waitDma2_eq 𝒱₀ (c : Thread nD τ) none Set.univ) (Set.mem_univ _) () (O := owe c 0) (W := W) (R := 0) (m := 0) (T := ∅)
      (by rw [Nat.zero_add, expect_x, hm])) $$ [Hcr HO Hat]
  · isplitr; · iexact HI
    isplitl [Hcr]; · rw [hm]; iexact Hcr
    isplitl [HO]; · iexact HO
    isplitr; · unfold owe; rw [MayWait_zero]; iempintro
    iexact Hat
  iintro ⟨HO, Hat, -, Hpay⟩
  ihave Hp := (Entails.of_eq (rest_x X c b d j)) $$ Hpay
  iapply Hk
  isplitr; · iexact HR
  isplitl [HP Hat Hp]
  · iapply HP; unfold waitΨ
    isplitl [Hat]; · iexact Hat
    iexact Hp
  iexists _; iexact HO

end Cert.KernelIdeal.Softmax

end
-- ==== Proof.KernelIdeal.Arrays.lean ====
/-
# The arrays between the phases

How the two arrays are dealt into rows and shares before a phase, and put together again after it; what the stores of a
row and of a part of the result leave; and how the cells are given back at the end.
-/
module

public import proofs.«01_k».proof.Proof.KernelIdeal.Steps
public import Idealize.ShloMosaic.Lib.Pipeline.ValueKit.Geometry

@[expose] public section

noncomputable section

namespace Cert.KernelIdeal.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok pointsTo_toks_split pointsTo_toks_join)
open Idealize.ShloMosaic.ValueIdx (ix2 ix3)

variable {F : FTy → Type} [FloatOps F]

local notation "𝕄" => MT nD τ sig Unit (Elt F) ℕ UU ℕ

variable (X : Dev nD → (cc0_stg0_0 : Ref sig .tc).ty.Contents (Elt F)) (K : Dev nD × Cel → ℕ)

/-! ## Stores -/

/-- The row that a device with block `x` fills of array `b`. -/
def rowOf (b : Bool) (x : (cc0_stg0_0 : Ref sig .tc).ty.Contents (Elt F)) : Vec F S1x16x128 .f32 :=
  match b with
  | false => mRow x
  | true => sRow x

/-- The store of one's own row leaves there what the array shall hold. -/
theorem stored_row (b : Bool) (c : Dev nD) (o : Fin 3 → Nat) (ho : o = ![c.val, 0, 0]) (hi : ∀ a, o a + S1x16x128.size a ≤ S8x16x128.size a)
    (f : Buf (Elt F) ((bufM b).view.loc (c : Thread nD τ))) (w : Vec F S1x16x128 .f32) (hw : w = rowOf b (X c)) :
    ((bufM b).view.loc (c : Thread nD τ) ↦[(rowM (bufM b) c).view.set]{fullShare}
        ((bufM b).access (Rect.unit (s := S8x16x128) o S1x16x128.size hi)).write (Elt F) f w Finset.univ : sProp 𝕄)
      = rowPts c b c fullShare (val X b c) := by
  subst ho hw
  unfold rowPts
  refine pointsTo_congr fun i hi' => ?_
  obtain ⟨x, rfl⟩ := emb_surj b i
  have hx := (mem_row b c x).mp hi'
  have e : (bufM b).view.emb x = ((bufM b).access (Rect.unit (s := S8x16x128) ![c.val, 0, 0] S1x16x128.size hi)).emb (rowIx x) := by
    show (bufM b).view.emb x = (bufM b).view.emb ((Rect.unit (s := S8x16x128) ![c.val, 0, 0] S1x16x128.size hi).emb (rowIx x))
    congr 1
    funext a
    apply Fin.ext
    rw [ValueKit.rect_emb_unit_val]
    subst hx
    fin_cases a
    · rfl
    · exact (Nat.zero_add _).symm
    · exact (Nat.zero_add _).symm
  rw [e, View.write_emb_of_mem _ _ (Finset.mem_univ _), ← e]
  subst hx
  cases b <;> rfl

theorem row_access_subset (b : Bool) (c : Dev nD) (o : Fin 3 → Nat) (ho : o = ![c.val, 0, 0]) (hi : ∀ a, o a + S1x16x128.size a ≤ S8x16x128.size a) :
    ((bufM b).access (Rect.unit (s := S8x16x128) o S1x16x128.size hi)).setOn Finset.univ ⊆ (rowM (bufM b) c).view.set := by
  subst ho
  rw [View.setOn_univ, row_set]
  exact le_of_eq (View.set_slice _ _)
theorem row_load_subset (b : Bool) (c : Dev nD) (o : Fin 3 → Nat) (ho : o = ![c.val, 0, 0]) (hi : ∀ a, o a + S1x16x128.size a ≤ S8x16x128.size a) :
    (bufM b).view.setOn (Rect.unit (s := S8x16x128) o S1x16x128.size hi).toLoadRect.set ⊆ (rowM (bufM b) c).view.set := by
  subst ho
  rw [row_set]
  exact subset_rfl

/-- The place of a row of a block among its 512. -/
abbrev lix (i : S2048x2048.Idx) : S512x2048.Idx := ix2 ⟨(i 0).val % 512, Nat.mod_lt _ (by decide)⟩ (i 1)

/-- A store of 512 rows of the result beginning at row `o`. -/
theorem stored_rows (o : Nat) (ho : o % 512 = 0) (hi : ∀ a, (![o, 0] : Fin 2 → Nat) a + S512x2048.size a ≤ S2048x2048.size a)
    (f : (cc0_stg1_0 : Ref sig .tc).ty.Contents (Elt F)) (w : Vec F S512x2048 .f32) (i : S2048x2048.Idx) :
    ((oM : Memref sig .tc .vmem S2048x2048 .f32).access (Rect.unit (s := S2048x2048) ![o, 0] S512x2048.size hi)).write (Elt F) f w Finset.univ i
      = if o ≤ (i 0).val ∧ (i 0).val < o + 512 then w (lix i) else f i := by
  by_cases h : o ≤ (i 0).val ∧ (i 0).val < o + 512
  · have e : i = ((oM : Memref sig .tc .vmem S2048x2048 .f32).access (Rect.unit (s := S2048x2048) ![o, 0] S512x2048.size hi)).emb (lix i) := by
      show i = (Rect.unit (s := S2048x2048) ![o, 0] S512x2048.size hi).emb (lix i)
      funext a
      apply Fin.ext
      rw [ValueKit.rect_emb_unit_val]
      fin_cases a
      · show (i 0).val = o + (i 0).val % 512
        omega
      · exact (Nat.zero_add _).symm
    rw [if_pos h]
    conv_lhs => rw [e]
    exact View.write_emb_of_mem _ _ (Finset.mem_univ _)
  · rw [if_neg h]
    refine View.write_of_not_mem _ _ _ fun hm => h ?_
    rw [View.setOn_univ] at hm
    have hm' : i ∈ (Rect.unit (s := S2048x2048) ![o, 0] S512x2048.size hi).set := by
      have := hm
      rwa [show ((oM : Memref sig .tc .vmem S2048x2048 .f32).access (Rect.unit (s := S2048x2048) ![o, 0] S512x2048.size hi)).set
        = (Rect.unit (s := S2048x2048) ![o, 0] S512x2048.size hi).set from View.set_slice_whole _ _] at this
    have h0 := (Rect.mem_set_unit.mp hm') 0
    exact h0

/-- The four parts of a result. -/
def parts (w₀ w₁ w₂ w₃ : Vec F S512x2048 .f32) : (cc0_stg1_0 : Ref sig .tc).ty.Contents (Elt F) := fun i : S2048x2048.Idx =>
  if (i 0).val < 512 then w₀ (lix i) else if (i 0).val < 1024 then w₁ (lix i) else if (i 0).val < 1536 then w₂ (lix i) else w₃ (lix i)

/-- The four stores of the result leave nothing of what was there before. -/
theorem stored_parts (f : (cc0_stg1_0 : Ref sig .tc).ty.Contents (Elt F)) (w₀ w₁ w₂ w₃ : Vec F S512x2048 .f32) :
    ((oM : Memref sig .tc .vmem S2048x2048 .f32).access (Rect.unit (s := S2048x2048) ![1536, 0] S512x2048.size inb_S2048x2048_S512x2048_1536_0)).write (Elt F)
      (((oM : Memref sig .tc .vmem S2048x2048 .f32).access (Rect.unit (s := S2048x2048) ![1024, 0] S512x2048.size inb_S2048x2048_S512x2048_1024_0)).write (Elt F)
        (((oM : Memref sig .tc .vmem S2048x2048 .f32).access (Rect.unit (s := S2048x2048) ![512, 0] S512x2048.size inb_S2048x2048_S512x2048_512_0)).write (Elt F)
          (((oM : Memref sig .tc .vmem S2048x2048 .f32).access (Rect.unit (s := S2048x2048) ![0, 0] S512x2048.size inb_S2048x2048_S512x2048_0_0)).write (Elt F)
            f w₀ Finset.univ) w₁ Finset.univ) w₂ Finset.univ) w₃ Finset.univ = parts w₀ w₁ w₂ w₃ := by
  funext i
  have hi : (i 0).val < 2048 := (i 0).isLt
  rw [stored_rows 1536 (by decide), stored_rows 1024 (by decide), stored_rows 512 (by decide), stored_rows 0 (by decide)]
  unfold parts
  split_ifs <;> first | rfl | (exfalso; omega)

/-- The result of a device with block `x`, the arrays of maxima and sums being `mg` and `sg`. -/
def outOf (x : (cc0_stg0_0 : Ref sig .tc).ty.Contents (Elt F)) (mg sg : Vec F S8x16x128 .f32) : (cc0_stg1_0 : Ref sig .tc).ty.Contents (Elt F) :=
  parts (k0_pay11 mg (k0_pay9 mg) sg (ch0 x)) (k0_pay14 (k0_pay12 (k0_pay9 mg)) (k0_pay13 mg (k0_pay9 mg) sg) (ch1 x))
    (k0_pay15 (k0_pay9 mg) (k0_pay10 mg (k0_pay9 mg) sg) (ch2 x)) (k0_pay16 (k0_pay9 mg) (k0_pay10 mg (k0_pay9 mg) sg) (ch3 x))

theorem hz : (![0, 0, 0] : Fin 3 → Nat) = fun _ => 0 := funext fun a => by fin_cases a <;> rfl
/-- A load of a whole array reads what it holds. -/
theorem read_all (b : Bool) (c : Dev nD) :
    (bufM b).view.readAt (Elt F) (Rect.unit (s := S8x16x128) ![0, 0, 0] S8x16x128.size inb_S8x16x128_S8x16x128_0_0_0).toLoadRect (val X b c)
      = (bif b then sVal X else mVal X) := by
  cases b
  · exact Memref.readAt_unit_zero (Elt F) cc0_scratch0 hz _ _
  · exact Memref.readAt_unit_zero (Elt F) cc0_scratch1 hz _ _

/-! ## Before the signals -/

theorem sep_join (Φ Ψ : Fin 7 → sProp 𝕄) :
    iprop((bigSep Finset.univ Φ) ∗ bigSep Finset.univ Ψ) ⊢ bigSep Finset.univ fun j => iprop(Φ j ∗ Ψ j) :=
  Entails.of_eq (bigSep_sep' _ _ _).symm

theorem big_mono {I : Type} [Fintype I] {Φ Ψ : I → sProp 𝕄} (h : ∀ j, Φ j ⊢ Ψ j) : bigSep Finset.univ Φ ⊢ bigSep Finset.univ Ψ :=
  bigSep_mono fun j _ => h j

/-- What a persistent fact gives for each index, it gives for all. -/
theorem big_intro {I : Type} [Fintype I] [DecidableEq I] {R : sProp 𝕄} [BI.Persistent R] {Ψ : I → sProp 𝕄} (h : ∀ j, R ⊢ Ψ j) :
    R ⊢ bigSep Finset.univ Ψ :=
  (bigSep_of_persistent Finset.univ R).trans (big_mono h)

theorem sig_one (c : Dev nD) (j : Fin 7) (f₀ : Buf (Elt F) ((bufM false).view.loc (c : Thread nD τ))) (f₁ : Buf (Elt F) ((bufM true).view.loc (c : Thread nD τ))) :
    iprop(dutyTok EX (barCell (peer c j)) 0 j.rev ∗ rowPts c false (peer c j) fullShare f₀ ∗ rowPts c true (peer c j) fullShare f₁)
      ⊢ sigΦ (F := F) c j := by
  unfold sigΦ barPay
  rw [peer_peer_rev]
  iintro ⟨Ht, Hm, Hs⟩
  isplitl [Ht]; · iexact Ht
  isplitl [Hm]; · iexists _; iexact Hm
  iexists _; iexact Hs

/-- A device keeps its own rows and has the others to hand over. -/
theorem sig_start (c : Dev nD) (f₀ : Buf (Elt F) ((bufM false).view.loc (c : Thread nD τ))) (f₁ : Buf (Elt F) ((bufM true).view.loc (c : Thread nD τ))) :
    iprop((bigSep Finset.univ fun j : Fin 7 => dutyTok EX (barCell (peer c j)) 0 j.rev) ∗ allPts c false fullShare f₀ ∗ allPts c true fullShare f₁)
      ⊢ iprop(ph (sigΦ (F := F) c) (fun _ => iprop(emp)) 0 ∗ rowPts c false c fullShare f₀ ∗ rowPts c true c fullShare f₁) := by
  have e : ∀ b f, allPts (F := F) c b fullShare f = iprop(rowPts c b c fullShare f ∗ bigSep Finset.univ fun j : Fin 7 => rowPts c b (peer c j) fullShare f) :=
    fun b f => by rw [allPts_rows]; exact bigSep_around (peer c) (peer_injective c) c (peer_ne c) _
  rw [ph_zero, e, e]
  iintro ⟨Ht, ⟨Hm, Hms⟩, Hs, Hss⟩
  isplitl [Ht Hms Hss]
  · ihave H := (sep_join _ _) $$ [Hms Hss]
    · isplitl [Hms]; · iexact Hms
      iexact Hss
    ihave H' := (sep_join _ _) $$ [Ht H]
    · isplitl [Ht]; · iexact Ht
      iexact H
    iapply (big_mono (F := F) fun j => sig_one c j f₀ f₁)
    iexact H'
  isplitl [Hm]; · iexact Hm
  iexact Hs

/-- What the barrier brings, array by array. -/
theorem bar_rows (c : Dev nD) :
    (bigSep Finset.univ fun j : Fin 7 => barPay (F := F) c j)
      = iprop((bigSep Finset.univ fun j : Fin 7 => iprop(∃ f, rowPts (F := F) (peer c j) false c fullShare f))
        ∗ bigSep Finset.univ fun j : Fin 7 => iprop(∃ f, rowPts (F := F) (peer c j) true c fullShare f)) :=
  bigSep_sep' _ _ _

/-! ## Before and after the copies -/

/-- A row at the whole share is the row at the kept share and the seven shares that the copies read. -/
theorem row_shares (c : Dev nD) (b : Bool) (i : Dev nD) (f : Buf (Elt F) ((bufM b).view.loc (c : Thread nD τ))) :
    rowPts (F := F) c b i fullShare f
      ⊣⊢ iprop(rowPts c b i (shareDrop fullShare 7) f ∗ bigSep Finset.univ fun j : Fin 7 => rowPts c b i (shareTok fullShare 7 j) f) := by
  unfold rowPts
  exact ⟨pointsTo_toks_split fullShare 7, pointsTo_toks_join fullShare 7⟩

/-- The tokens of the two duties of each copy. -/
def toksX (c : Dev nD) (b : Bool) : sProp 𝕄 :=
  bigSep Finset.univ fun j : Fin 7 => iprop(dutyTok EX (xCell c b false j) 0 0 ∗ dutyTok EX (xCell (peer c j) b true j) 0 0)

/-- The filled row, the rows to write and the tokens make up what the copies need; a share of the row is kept. -/
theorem send_start (c : Dev nD) (b : Bool) :
    iprop(rowPts c b c fullShare (val X b c) ∗ (bigSep Finset.univ fun j : Fin 7 => iprop(∃ f, rowPts (F := F) (peer c j) b c fullShare f)) ∗ toksX c b)
      ⊢ iprop(ph (sendΦ X c b) (sendΨ c b) 0 ∗ rowPts c b c (shareDrop fullShare 7) (val X b c)) := by
  rw [ph_zero]
  iintro ⟨Hr, Hd, Ht⟩
  ihave Hr' := (row_shares c b c (val X b c)).1 $$ Hr
  icases Hr' with ⟨Hk, Hs⟩
  isplitr [Hk]
  · unfold toksX
    ihave H := (sep_join _ _) $$ [Hs Ht]
    · isplitl [Hs]; · iexact Hs
      iexact Ht
    ihave H' := (sep_join _ _) $$ [Hd H]
    · isplitl [Hd]; · iexact Hd
      iexact H
    iexact H'
  iexact Hk

/-- The credits and positions of the waits for seven copies. -/
theorem wait_start (c : Dev nD) (b d : Bool) :
    iprop((bigSep Finset.univ fun j : Fin 7 => cred (tallyAt (xCell c b d j) () N)) ∗ bigSep Finset.univ fun j : Fin 7 => atPos EX (xCell c b d j) 0 ∅ 0)
      ⊢ ph (waitΦ (F := F) c b d) (waitΨ X c b d) 0 := by
  rw [ph_zero]; exact sep_join _ _

/-- After them: the positions, and the rows. -/
theorem wait_end (c : Dev nD) (b d : Bool) :
    ph (waitΦ (F := F) c b d) (waitΨ X c b d) 7
      = iprop((bigSep Finset.univ fun j : Fin 7 => atPos EX (xCell c b d j) 1 ∅ 0) ∗ bigSep Finset.univ fun j : Fin 7 => copyPay X c b d j) := by
  rw [ph_seven]; exact bigSep_sep' _ _ _

/-- After the copies: the credits to wait for their sending sides. -/
theorem sent_end (c : Dev nD) (b : Bool) :
    ph (sendΦ X c b) (sendΨ c b) 7 ⊢ bigSep Finset.univ fun j : Fin 7 => cred (tallyAt (xCell c b false j) () N) := by
  rw [ph_seven]; rfl

/-- Three resources, as one. -/
theorem sep_three (P Q R : sProp 𝕄) : iprop(P ∗ Q ∗ R) ⊢ iprop(P ∗ Q ∗ R) := BI.Entails.refl _

/-- The shares of an array that are left beside the kept one when the seven rows have arrived. -/
def restPts (c : Dev nD) (b : Bool) : sProp 𝕄 :=
  bigSep Finset.univ fun i : Fin 7 => bigSep Finset.univ fun j : Fin 7 => rowPts c b (src c i) (shareTok fullShare 7 j) (val X b c)

/-- The arrived rows and the kept share of one's own are the whole array, to read. -/
theorem gather (c : Dev nD) (b : Bool) :
    iprop(rowPts c b c (shareDrop fullShare 7) (val X b c) ∗ bigSep Finset.univ fun j : Fin 7 => copyPay X c b true j)
      ⊢ iprop(allPts c b (shareDrop fullShare 7) (val X b c) ∗ restPts X c b) := by
  rw [allPts_rows, bigSep_around (src c) (src_injective c) c (src_ne c)]
  iintro ⟨Hk, Hr⟩
  ihave Hr' := (big_mono (F := F)
    (Φ := fun j : Fin 7 => copyPay X c b true j)
    (Ψ := fun i : Fin 7 => iprop(rowPts c b (src c i) (shareDrop fullShare 7) (val X b c)
      ∗ bigSep Finset.univ fun j : Fin 7 => rowPts c b (src c i) (shareTok fullShare 7 j) (val X b c)))
    fun i => (row_shares c b (src c i) (val X b c)).1) $$ Hr
  ihave Hr'' := (Entails.of_eq (bigSep_sep' _ _ _)) $$ Hr'
  icases Hr'' with ⟨Ha, Hb⟩
  isplitl [Hk Ha]
  · isplitl [Hk]; · iexact Hk
    iexact Ha
  unfold restPts
  iexact Hb

/-- With the shares that the copies read back, it is the whole array outright. -/
theorem regain (c : Dev nD) (b : Bool) :
    iprop(allPts c b (shareDrop fullShare 7) (val X b c) ∗ restPts X c b ∗ bigSep Finset.univ fun j : Fin 7 => copyPay X c b false j)
      ⊢ allPts c b fullShare (val X b c) := by
  rw [allPts_rows, allPts_rows, bigSep_around (src c) (src_injective c) c (src_ne c), bigSep_around (src c) (src_injective c) c (src_ne c)]
  iintro ⟨⟨Hk, Ha⟩, Hb, Hs⟩
  isplitl [Hk Hs]
  · iapply (row_shares c b c (val X b c)).2
    isplitl [Hk]; · iexact Hk
    iexact Hs
  ihave H := (sep_join _ _) $$ [Ha Hb]
  · isplitl [Ha]; · iexact Ha
    unfold restPts; iexact Hb
  iapply (big_mono (F := F) fun i => (row_shares c b (src c i) (val X b c)).2)
  iexact H

/-! ## The cells at the end -/

/-- A family over the copies' semaphores, array by array and side by side. -/
theorem bigSep_copies (Φ : Bool × Bool × Fin 7 → sProp 𝕄) :
    bigSep Finset.univ Φ = iprop(((bigSep Finset.univ fun j : Fin 7 => Φ (false, false, j)) ∗ bigSep Finset.univ fun j : Fin 7 => Φ (false, true, j))
      ∗ (bigSep Finset.univ fun j : Fin 7 => Φ (true, false, j)) ∗ bigSep Finset.univ fun j : Fin 7 => Φ (true, true, j)) := by
  have hb : ∀ Ψ : Bool → sProp 𝕄, bigSep Finset.univ Ψ = iprop(Ψ false ∗ Ψ true) := fun Ψ => by
    rw [show (Finset.univ : Finset Bool) = {false, true} from by decide, bigSep_insert (by decide), bigSep_singleton]; rfl
  rw [bigSep_univ_prod, hb, bigSep_univ_prod, bigSep_univ_prod, hb, hb]

/-- A device past its one round everywhere closes its cells: their counters are zero. -/
theorem close_all (c : Dev nD) :
    iprop(records X K ∗ atPos EX (barCell c) 1 ∅ 0 ∗ bigSep Finset.univ fun k : Bool × Bool × Fin 7 => atPos EX (xCell c k.1 k.2.1 k.2.2) 1 ∅ 0)
      ⊢ (|={Set.univ}=> iprop(semVal (barCell c) 0 ∗ bigSep Finset.univ fun k : Bool × Bool × Fin 7 => semVal ((c : Thread nD τ), osem k) 0) : sProp 𝕄) := by
  iintro ⟨#HR, Hb, Hx⟩
  ihave HI := (records_at X K (c, none)) $$ HR
  icases HI with ⟨#HI, -⟩
  imod (Rounds.cell_close EX (xRd X) (Set.mem_univ (K (c, none))) (fun h => h) (R := 1) (duties_later X (barCell c))) $$ [Hb] with Hb
  · isplitr; · iexact HI
    iexact Hb
  imod (Rounds.cells_close EX (xRd X) (Finset.univ : Finset (Bool × Bool × Fin 7)) (fun k => xCell c k.1 k.2.1 k.2.2) (fun k => K (c, some k))
    (fun k _ => Set.mem_univ _) (fun k _ h => h) (fun _ => 1) (fun k _ => duties_later X _)) $$ [Hx] with Hx
  · ihave HIs := (big_intro (F := F) (Ψ := fun k : Bool × Bool × Fin 7 => cellInv EX (xRd X) (K (c, some k)) (xCell c k.1 k.2.1 k.2.2))
      fun k => (records_at X K (c, some k)).trans sep_elim_left) $$ HR
    rw [bigSep_sep']
    isplitl [HIs]; · iexact HIs
    iexact Hx
  imodintro
  isplitl [Hb]; · iexact Hb
  iexact Hx

end Cert.KernelIdeal.Softmax

end
-- ==== Proof.KernelIdeal.Body.lean ====
/-
# The body on one device

The kernel's body, effect by effect: the seven signals and the wait at the barrier; the maxima of the device's own
block, stored in its row and sent; the sums, stored and sent; the waits for the maxima and for the sums of the others;
the result; and the waits for one's own copies.
-/
module

public import proofs.«01_k».proof.Proof.KernelIdeal.Arrays

@[expose] public section

noncomputable section

namespace Cert.KernelIdeal.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)

variable {F : FTy → Type} [FloatOps F]

local notation "𝕄" => MT nD τ sig Unit (Elt F) ℕ UU ℕ

variable (X : Dev nD → (cc0_stg0_0 : Ref sig .tc).ty.Contents (Elt F)) (K : Dev nD × Cel → ℕ)

theorem off1 (c : Dev nD) : k0_off1 c = ![c.val, 0, 0] := k0_off1_eq c
theorem off2 (c : Dev nD) : k0_off2 c = ![c.val, 0, 0] := k0_off2_eq c

/-- What the body starts from, but for the staging buffers and what the device owes. -/
def bodyRes (c : Dev nD) : sProp 𝕄 :=
  iprop(records X K ∗ levAts L lv ∗ cred (tallyAt (barCell c) () 7) ∗ atPos EX (barCell c) 0 ∅ 0
    ∗ (bigSep Finset.univ fun j : Fin 7 => dutyTok EX (barCell (peer c j)) 0 j.rev) ∗ toksX c false ∗ toksX c true
    ∗ (bigSep Finset.univ fun j : Fin 7 => cred (tallyAt (xCell c false true j) () N))
    ∗ (bigSep Finset.univ fun j : Fin 7 => cred (tallyAt (xCell c true true j) () N))
    ∗ (bigSep Finset.univ fun k : Bool × Bool × Fin 7 => atPos EX (xCell c k.1 k.2.1 k.2.2) 0 ∅ 0)
    ∗ (∃ f, allPts (F := F) c false fullShare f) ∗ ∃ f, allPts (F := F) c true fullShare f)

/-- What it ends with: the two arrays, and every counter at zero. -/
def bodyEnd (c : Dev nD) : sProp 𝕄 :=
  iprop((∃ f, allPts (F := F) c false fullShare f) ∗ (∃ f, allPts (F := F) c true fullShare f)
    ∗ semVal (barCell c) 0 ∗ bigSep Finset.univ fun k : Bool × Bool × Fin 7 => semVal ((c : Thread nD τ), osem k) 0)

set_option maxHeartbeats 4000000 in
/-- The body of device `c`: it ends with the result in the second staging buffer. -/
theorem sound_body (c : Dev nD) (g : (cc0_stg1_0 : Ref sig .tc).ty.Contents (Elt F)) (Kt : PUnit → sProp 𝕄) :
    iprop((bodyRes X K c ∗ owesW c 21 ∗ (((c : Thread nD τ).loc cc0_stg0_0) ↦{fullShare} X c) ∗ (((c : Thread nD τ).loc cc0_stg1_0) ↦{fullShare} g))
        ∗ ((bodyEnd c ∗ owesW c 0 ∗ (((c : Thread nD τ).loc cc0_stg0_0) ↦{fullShare} X c)
          ∗ (((c : Thread nD τ).loc cc0_stg1_0) ↦{fullShare} outOf (X c) (mVal X) (sVal X))) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  unfold bodyRes
  iintro ⟨⟨⟨#HR, #Hlev, HcB, HatB, HtB, HtM, HtS, HcM, HcS, Hat, ⟨%f₀, Hf₀⟩, ⟨%f₁, Hf₁⟩⟩, HO, Hx, Hout⟩, Hk⟩
  ihave Hat' := (Entails.of_eq (bigSep_copies _)) $$ Hat
  icases Hat' with ⟨⟨HatM0, HatM1⟩, HatS0, HatS1⟩
  ihave H := (sig_start c f₀ f₁) $$ [HtB Hf₀ Hf₁]
  · isplitl [HtB]; · iexact HtB
    isplitl [Hf₀]; · iexact Hf₀
    iexact Hf₁
  icases H with ⟨HP, Hm, Hs⟩
  -- the signals
  ihave HS := (sep_three _ _ _) $$ [HP HO]
  · isplitr; · iexact HR
    isplitl [HP]; · iexact HP
    iexact HO
  simp only [k0_part1_eq_skeleton, k0_part1_skel,
    semSignalWord, semWaitWord, Prog.lift, Prog.bind_op, Prog.bind_ret, Prog.pure_eq_ret, wp_deviceId]
  iapply (sig_step X K c 0 _ (dev_sig c).1 0 1 21 20 rfl rfl rfl rfl _ rfl) $$ HS; iintro HS
  iapply (sig_step X K c 1 _ (dev_sig c).2.1 1 2 20 19 rfl rfl rfl rfl _ rfl) $$ HS; iintro HS
  simp only [k0_part2_eq_skeleton, k0_part2_skel,
    semSignalWord, semWaitWord, Prog.lift, Prog.bind_op, Prog.bind_ret, Prog.pure_eq_ret, wp_deviceId]
  iapply (sig_step X K c 2 _ (dev_sig c).2.2.1 2 3 19 18 rfl rfl rfl rfl _ rfl) $$ HS; iintro HS
  iapply (sig_step X K c 3 _ (dev_sig c).2.2.2.1 3 4 18 17 rfl rfl rfl rfl _ rfl) $$ HS; iintro HS
  simp only [k0_part3_eq_skeleton, k0_part3_skel,
    semSignalWord, semWaitWord, Prog.lift, Prog.bind_op, Prog.bind_ret, Prog.pure_eq_ret, wp_deviceId]
  iapply (sig_step X K c 4 _ (dev_sig c).2.2.2.2.1 4 5 17 16 rfl rfl rfl rfl _ rfl) $$ HS; iintro HS
  iapply (sig_step X K c 5 _ (dev_sig c).2.2.2.2.2.1 5 6 16 15 rfl rfl rfl rfl _ rfl) $$ HS; iintro HS
  iapply (sig_step X K c 6 _ (dev_sig c).2.2.2.2.2.2 6 7 15 14 rfl rfl rfl rfl _ rfl) $$ HS; iintro HS
  icases HS with ⟨-, -, HO⟩
  -- the barrier
  iapply (bar_step X K c _ rfl) $$ [HcB HatB HO]
  · isplitr; · iexact HR
    isplitr; · iexact Hlev
    isplitl [HcB]; · iexact HcB
    isplitl [HatB]; · iexact HatB
    iexact HO
  iintro ⟨-, HatB, HO, HP⟩
  ihave HP' := (Entails.of_eq (bar_rows c)) $$ HP
  icases HP' with ⟨HdM, HdS⟩
  -- the maxima, and their copies
  simp only [k0_part4_eq_skeleton, k0_part4_skel,
    semSignalWord, semWaitWord, Prog.lift, Prog.bind_op, Prog.bind_ret, Prog.pure_eq_ret, wp_deviceId]
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  unfold rowPts
  iapply (wp_load 𝒱₀ (c : Thread nD τ) none Set.univ (m := bufM false) (row_load_subset false c _ (off1 c) _)) $$ Hm; iintro Hm
  iapply (wp_store 𝒱₀ (c : Thread nD τ) none Set.univ (m := bufM false) (r := Rect.unit (s := S8x16x128) (k0_off1 c) S1x16x128.size (k0_off1_inb c))
    (S := (rowM (bufM false) c).view.set) (f := f₀) (Mk := Finset.univ) (row_access_subset false c _ (off1 c) _)) $$ Hm; iintro Hm
  ihave Hm := (Entails.of_eq (stored_row X false c _ (off1 c) (k0_off1_inb c) f₀
    (k0_pay5 (ch0 (X c)) (ch1 (X c)) (ch2 (X c)) (ch3 (X c))) rfl)) $$ Hm
  ihave H := (send_start X c false) $$ [Hm HdM HtM]
  · isplitl [Hm]; · iexact Hm
    isplitl [HdM]; · iexact HdM
    iexact HtM
  icases H with ⟨HP, Hm⟩
  ihave HS := (sep_three _ _ _) $$ [HP HO]
  · isplitr; · iexact HR
    isplitl [HP]; · iexact HP
    iexact HO
  simp only [k0_part5_eq_skeleton, k0_part5_skel,
    semSignalWord, semWaitWord, Prog.lift, Prog.bind_op, Prog.bind_ret, Prog.pure_eq_ret, wp_deviceId]
  iapply (send_step X K false c 0 _ (dev_m c).1 _ (off2 c) _ _ _ rfl rfl 0 1 14 13 rfl rfl rfl rfl) $$ HS; iintro HS
  iapply (send_step X K false c 1 _ (dev_m c).2.1 _ (off2 c) _ _ _ rfl rfl 1 2 13 12 rfl rfl rfl rfl) $$ HS; iintro HS
  simp only [k0_part6_eq_skeleton, k0_part6_skel,
    semSignalWord, semWaitWord, Prog.lift, Prog.bind_op, Prog.bind_ret, Prog.pure_eq_ret, wp_deviceId]
  iapply (send_step X K false c 2 _ (dev_m c).2.2.1 _ (off2 c) _ _ _ rfl rfl 2 3 12 11 rfl rfl rfl rfl) $$ HS; iintro HS
  simp only [k0_part7_eq_skeleton, k0_part7_skel,
    semSignalWord, semWaitWord, Prog.lift, Prog.bind_op, Prog.bind_ret, Prog.pure_eq_ret, wp_deviceId]
  iapply (send_step X K false c 3 _ (dev_m c).2.2.2.1 _ (off2 c) _ _ _ rfl rfl 3 4 11 10 rfl rfl rfl rfl) $$ HS; iintro HS
  iapply (send_step X K false c 4 _ (dev_m c).2.2.2.2.1 _ (off2 c) _ _ _ rfl rfl 4 5 10 9 rfl rfl rfl rfl) $$ HS; iintro HS
  simp only [k0_part8_eq_skeleton, k0_part8_skel,
    semSignalWord, semWaitWord, Prog.lift, Prog.bind_op, Prog.bind_ret, Prog.pure_eq_ret, wp_deviceId]
  iapply (send_step X K false c 5 _ (dev_m c).2.2.2.2.2.1 _ (off2 c) _ _ _ rfl rfl 5 6 9 8 rfl rfl rfl rfl) $$ HS; iintro HS
  iapply (send_step X K false c 6 _ (dev_m c).2.2.2.2.2.2 _ (off2 c) _ _ _ rfl rfl 6 7 8 7 rfl rfl rfl rfl) $$ HS; iintro HS
  icases HS with ⟨-, HQM, HO⟩
  -- the sums, and their copies
  iapply (wp_load 𝒱₀ (c : Thread nD τ) none Set.univ (m := xM) (Finset.subset_univ _)) $$ Hx; iintro Hx
  simp only [k0_part9_eq_skeleton, k0_part9_skel,
    semSignalWord, semWaitWord, Prog.lift, Prog.bind_op, Prog.bind_ret, Prog.pure_eq_ret, wp_deviceId]
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := bufM true) (row_load_subset true c _ (off1 c) _)) $$ Hs; iintro Hs
  iapply (wp_store 𝒱₀ (c : Thread nD τ) none Set.univ (m := bufM true) (r := Rect.unit (s := S8x16x128) (k0_off1 c) S1x16x128.size (k0_off1_inb c))
    (S := (rowM (bufM true) c).view.set) (f := f₁) (Mk := Finset.univ) (row_access_subset true c _ (off1 c) _)) $$ Hs; iintro Hs
  ihave Hs := (Entails.of_eq (stored_row X true c _ (off1 c) (k0_off1_inb c) f₁
    (k0_pay8 (k0_pay2 (ch1 (X c))) (k0_pay3 (ch2 (X c))) (k0_pay4 (ch3 (X c))) (k0_pay6 (ch0 (X c)))
      (k0_pay7 (k0_pay1 (ch0 (X c)))) (ch1 (X c)) (ch2 (X c)) (ch3 (X c))) rfl)) $$ Hs
  ihave H := (send_start X c true) $$ [Hs HdS HtS]
  · isplitl [Hs]; · iexact Hs
    isplitl [HdS]; · iexact HdS
    iexact HtS
  icases H with ⟨HP, Hs⟩
  ihave HS := (sep_three _ _ _) $$ [HP HO]
  · isplitr; · iexact HR
    isplitl [HP]; · iexact HP
    iexact HO
  simp only [k0_part10_eq_skeleton, k0_part10_skel,
    semSignalWord, semWaitWord, Prog.lift, Prog.bind_op, Prog.bind_ret, Prog.pure_eq_ret, wp_deviceId]
  iapply (send_step X K true c 0 _ (dev_s c).1 _ (off2 c) _ _ _ rfl rfl 0 1 7 6 rfl rfl rfl rfl) $$ HS; iintro HS
  iapply (send_step X K true c 1 _ (dev_s c).2.1 _ (off2 c) _ _ _ rfl rfl 1 2 6 5 rfl rfl rfl rfl) $$ HS; iintro HS
  simp only [k0_part11_eq_skeleton, k0_part11_skel,
    semSignalWord, semWaitWord, Prog.lift, Prog.bind_op, Prog.bind_ret, Prog.pure_eq_ret, wp_deviceId]
  iapply (send_step X K true c 2 _ (dev_s c).2.2.1 _ (off2 c) _ _ _ rfl rfl 2 3 5 4 rfl rfl rfl rfl) $$ HS; iintro HS
  simp only [k0_part12_eq_skeleton, k0_part12_skel,
    semSignalWord, semWaitWord, Prog.lift, Prog.bind_op, Prog.bind_ret, Prog.pure_eq_ret, wp_deviceId]
  iapply (send_step X K true c 3 _ (dev_s c).2.2.2.1 _ (off2 c) _ _ _ rfl rfl 3 4 4 3 rfl rfl rfl rfl) $$ HS; iintro HS
  iapply (send_step X K true c 4 _ (dev_s c).2.2.2.2.1 _ (off2 c) _ _ _ rfl rfl 4 5 3 2 rfl rfl rfl rfl) $$ HS; iintro HS
  simp only [k0_part13_eq_skeleton, k0_part13_skel,
    semSignalWord, semWaitWord, Prog.lift, Prog.bind_op, Prog.bind_ret, Prog.pure_eq_ret, wp_deviceId]
  iapply (send_step X K true c 5 _ (dev_s c).2.2.2.2.2.1 _ (off2 c) _ _ _ rfl rfl 5 6 2 1 rfl rfl rfl rfl) $$ HS; iintro HS
  simp only [k0_part14_eq_skeleton, k0_part14_skel,
    semSignalWord, semWaitWord, Prog.lift, Prog.bind_op, Prog.bind_ret, Prog.pure_eq_ret, wp_deviceId]
  iapply (send_step X K true c 6 _ (dev_s c).2.2.2.2.2.2 _ (off2 c) _ _ _ rfl rfl 6 7 1 0 rfl rfl rfl rfl) $$ HS; iintro HS
  icases HS with ⟨-, HQS, HO⟩
  -- the waits for the others' maxima
  ihave HP := (wait_start X c false true) $$ [HcM HatM1]
  · isplitl [HcM]; · iexact HcM
    iexact HatM1
  ihave HS := (sep_three _ _ _) $$ [HP HO]
  · isplitr; · iexact HR
    isplitl [HP]; · iexact HP
    iexact HO
  iapply (wait_step X K false true c 0 0 1 rfl rfl _ rfl) $$ HS; iintro HS
  simp only [k0_part15_eq_skeleton, k0_part15_skel,
    semSignalWord, semWaitWord, Prog.lift, Prog.bind_op, Prog.bind_ret, Prog.pure_eq_ret, wp_deviceId]
  iapply (wait_step X K false true c 1 1 2 rfl rfl _ rfl) $$ HS; iintro HS
  iapply (wait_step X K false true c 2 2 3 rfl rfl _ rfl) $$ HS; iintro HS
  simp only [k0_part16_eq_skeleton, k0_part16_skel,
    semSignalWord, semWaitWord, Prog.lift, Prog.bind_op, Prog.bind_ret, Prog.pure_eq_ret, wp_deviceId]
  iapply (wait_step X K false true c 3 3 4 rfl rfl _ rfl) $$ HS; iintro HS
  iapply (wait_step X K false true c 4 4 5 rfl rfl _ rfl) $$ HS; iintro HS
  simp only [k0_part17_eq_skeleton, k0_part17_skel,
    semSignalWord, semWaitWord, Prog.lift, Prog.bind_op, Prog.bind_ret, Prog.pure_eq_ret, wp_deviceId]
  iapply (wait_step X K false true c 5 5 6 rfl rfl _ rfl) $$ HS; iintro HS
  simp only [k0_part18_eq_skeleton, k0_part18_skel,
    semSignalWord, semWaitWord, Prog.lift, Prog.bind_op, Prog.bind_ret, Prog.pure_eq_ret, wp_deviceId]
  iapply (wait_step X K false true c 6 6 7 rfl rfl _ rfl) $$ HS; iintro HS
  icases HS with ⟨-, HP, HO⟩
  ihave HP' := (Entails.of_eq (wait_end X c false true)) $$ HP
  icases HP' with ⟨HatM1, HP⟩
  ihave H := (gather X c false) $$ [Hm HP]
  · isplitl [Hm]; · iexact Hm
    iexact HP
  icases H with ⟨Hm, HrM⟩
  unfold allPts
  ihave HP := (wait_start X c true true) $$ [HcS HatS1]
  · isplitl [HcS]; · iexact HcS
    iexact HatS1
  ihave HS := (sep_three _ _ _) $$ [HP HO]
  · isplitr; · iexact HR
    isplitl [HP]; · iexact HP
    iexact HO
  iapply (wp_load 𝒱₀ (c : Thread nD τ) none Set.univ (m := bufM false) (q := shareDrop fullShare 7) (f := val X false c)
    (by rw [whole_set]; exact Finset.subset_univ _)) $$ Hm; iintro Hm
  rw [read_all X false c]
  iapply (wait_step X K true true c 0 0 1 rfl rfl _ rfl) $$ HS; iintro HS
  simp only [k0_part19_eq_skeleton, k0_part19_skel,
    semSignalWord, semWaitWord, Prog.lift, Prog.bind_op, Prog.bind_ret, Prog.pure_eq_ret, wp_deviceId]
  iapply (wait_step X K true true c 1 1 2 rfl rfl _ rfl) $$ HS; iintro HS
  iapply (wait_step X K true true c 2 2 3 rfl rfl _ rfl) $$ HS; iintro HS
  simp only [k0_part20_eq_skeleton, k0_part20_skel,
    semSignalWord, semWaitWord, Prog.lift, Prog.bind_op, Prog.bind_ret, Prog.pure_eq_ret, wp_deviceId]
  iapply (wait_step X K true true c 3 3 4 rfl rfl _ rfl) $$ HS; iintro HS
  simp only [k0_part21_eq_skeleton, k0_part21_skel,
    semSignalWord, semWaitWord, Prog.lift, Prog.bind_op, Prog.bind_ret, Prog.pure_eq_ret, wp_deviceId]
  iapply (wait_step X K true true c 4 4 5 rfl rfl _ rfl) $$ HS; iintro HS
  iapply (wait_step X K true true c 5 5 6 rfl rfl _ rfl) $$ HS; iintro HS
  simp only [k0_part22_eq_skeleton, k0_part22_skel,
    semSignalWord, semWaitWord, Prog.lift, Prog.bind_op, Prog.bind_ret, Prog.pure_eq_ret, wp_deviceId]
  iapply (wait_step X K true true c 6 6 7 rfl rfl _ rfl) $$ HS; iintro HS
  icases HS with ⟨-, HP, HO⟩
  ihave HP' := (Entails.of_eq (wait_end X c true true)) $$ HP
  icases HP' with ⟨HatS1, HP⟩
  ihave H := (gather X c true) $$ [Hs HP]
  · isplitl [Hs]; · iexact Hs
    iexact HP
  icases H with ⟨Hs, HrS⟩
  unfold allPts
  ihave HC := (sent_end X c false) $$ HQM
  ihave HP := (wait_start X c false false) $$ [HC HatM0]
  · isplitl [HC]; · iexact HC
    iexact HatM0
  ihave HS := (sep_three _ _ _) $$ [HP HO]
  · isplitr; · iexact HR
    isplitl [HP]; · iexact HP
    iexact HO
  iapply (wp_load 𝒱₀ (c : Thread nD τ) none Set.univ (m := bufM true) (q := shareDrop fullShare 7) (f := val X true c)
    (by rw [whole_set]; exact Finset.subset_univ _)) $$ Hs; iintro Hs
  rw [read_all X true c]
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM)
    (r := Rect.unit (s := S2048x2048) ![0, 0] S512x2048.size inb_S2048x2048_S512x2048_0_0) (S := Finset.univ) (Mk := Finset.univ) (Finset.subset_univ _)) $$ Hout; iintro Hout
  iapply (wp_load 𝒱₀ (c : Thread nD τ) none Set.univ (m := xM) (Finset.subset_univ _)) $$ Hx; iintro Hx
  simp only [k0_part23_eq_skeleton, k0_part23_skel,
    semSignalWord, semWaitWord, Prog.lift, Prog.bind_op, Prog.bind_ret, Prog.pure_eq_ret, wp_deviceId]
  iapply (wp_load 𝒱₀ (c : Thread nD τ) none Set.univ (m := oM) (Finset.subset_univ _)) $$ Hout; iintro Hout
  iapply (wp_store 𝒱₀ (c : Thread nD τ) none Set.univ (m := oM)
    (r := Rect.unit (s := S2048x2048) ![512, 0] S512x2048.size inb_S2048x2048_S512x2048_512_0) (S := Finset.univ) (Mk := Finset.univ) (Finset.subset_univ _)) $$ Hout; iintro Hout
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM)
    (r := Rect.unit (s := S2048x2048) ![1024, 0] S512x2048.size inb_S2048x2048_S512x2048_1024_0) (S := Finset.univ) (Mk := Finset.univ) (Finset.subset_univ _)) $$ Hout; iintro Hout
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM)
    (r := Rect.unit (s := S2048x2048) ![1536, 0] S512x2048.size inb_S2048x2048_S512x2048_1536_0) (S := Finset.univ) (Mk := Finset.univ) (Finset.subset_univ _)) $$ Hout; iintro Hout
  simp only [k0_part24_eq_skeleton, k0_part24_skel,
    semSignalWord, semWaitWord, Prog.lift, Prog.bind_op, Prog.bind_ret, Prog.pure_eq_ret, wp_deviceId]
  iapply (wait_step X K false false c 0 0 1 rfl rfl _ rfl) $$ HS; iintro HS
  iapply (wait_step X K false false c 1 1 2 rfl rfl _ rfl) $$ HS; iintro HS
  iapply (wait_step X K false false c 2 2 3 rfl rfl _ rfl) $$ HS; iintro HS
  iapply (wait_step X K false false c 3 3 4 rfl rfl _ rfl) $$ HS; iintro HS
  iapply (wait_step X K false false c 4 4 5 rfl rfl _ rfl) $$ HS; iintro HS
  simp only [k0_part25_eq_skeleton, k0_part25_skel,
    semSignalWord, semWaitWord, Prog.lift, Prog.bind_op, Prog.bind_ret, Prog.pure_eq_ret, wp_deviceId]
  iapply (wait_step X K false false c 5 5 6 rfl rfl _ rfl) $$ HS; iintro HS
  iapply (wait_step X K false false c 6 6 7 rfl rfl _ rfl) $$ HS; iintro HS
  icases HS with ⟨-, HP, HO⟩
  ihave HP' := (Entails.of_eq (wait_end X c false false)) $$ HP
  icases HP' with ⟨HatM0, HP⟩
  ihave Hm := (regain X c false) $$ [Hm HrM HP]
  · isplitl [Hm]; · unfold allPts; iexact Hm
    isplitl [HrM]; · iexact HrM
    iexact HP
  ihave HC := (sent_end X c true) $$ HQS
  ihave HP := (wait_start X c true false) $$ [HC HatS0]
  · isplitl [HC]; · iexact HC
    iexact HatS0
  ihave HS := (sep_three _ _ _) $$ [HP HO]
  · isplitr; · iexact HR
    isplitl [HP]; · iexact HP
    iexact HO
  iapply (wait_step X K true false c 0 0 1 rfl rfl _ rfl) $$ HS; iintro HS
  iapply (wait_step X K true false c 1 1 2 rfl rfl _ rfl) $$ HS; iintro HS
  simp only [k0_part26_eq_skeleton, k0_part26_skel,
    semSignalWord, semWaitWord, Prog.lift, Prog.bind_op, Prog.bind_ret, Prog.pure_eq_ret, wp_deviceId]
  iapply (wait_step X K true false c 2 2 3 rfl rfl _ rfl) $$ HS; iintro HS
  iapply (wait_step X K true false c 3 3 4 rfl rfl _ rfl) $$ HS; iintro HS
  iapply (wait_step X K true false c 4 4 5 rfl rfl _ rfl) $$ HS; iintro HS
  iapply (wait_step X K true false c 5 5 6 rfl rfl _ rfl) $$ HS; iintro HS
  iapply (wait_step X K true false c 6 6 7 rfl rfl _ rfl) $$ HS; iintro HS
  icases HS with ⟨-, HP, HO⟩
  ihave HP' := (Entails.of_eq (wait_end X c true false)) $$ HP
  icases HP' with ⟨HatS0, HP⟩
  ihave Hs := (regain X c true) $$ [Hs HrS HP]
  · isplitl [Hs]; · unfold allPts; iexact Hs
    isplitl [HrS]; · iexact HrS
    iexact HP
  -- the end
  rw [wp_ret]
  imod (close_all X K c) $$ [HatB HatM0 HatM1 HatS0 HatS1] with ⟨HzB, Hz⟩
  · isplitr; · iexact HR
    isplitl [HatB]; · iexact HatB
    iapply (Entails.of_eq (bigSep_copies _).symm)
    isplitl [HatM0 HatM1]
    · isplitl [HatM0] <;> iassumption
    isplitl [HatS0] <;> iassumption
  imodintro
  iapply Hk
  unfold bodyEnd
  isplitr [HO Hx Hout]
  · isplitl [Hm]; · iexists _; iexact Hm
    isplitl [Hs]; · iexists _; iexact Hs
    isplitl [HzB]; · iexact HzB
    iexact Hz
  isplitl [HO]; · iexact HO
  isplitl [Hx]; · iexact Hx
  ihave Hout := (Entails.of_eq (congrArg (fun f => (((c : Thread nD τ).loc cc0_stg1_0) ↦{fullShare} f : sProp 𝕄)) (stored_parts g _ _ _ _))) $$ Hout
  unfold outOf
  iexact Hout

end Cert.KernelIdeal.Softmax

end
-- ==== Proof.KernelIdeal.Fund.lean ====
/-
# What a launch hands each device

The exchange's cells come into being for all eight devices at once. This module counts what the devices owe one another
against what each may expect, deals the tokens of the duties to the devices that discharge them, and shares out the
cells' invariants.
-/
module

public import proofs.«01_k».proof.Proof.KernelIdeal.Body

@[expose] public section

noncomputable section

namespace Cert.KernelIdeal.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

/-- A family over the cells of a device: the barrier's, and the copies'. -/
theorem bigSep_cel (Φ : Cel → sProp 𝕄) :
    bigSep Finset.univ Φ = iprop(Φ none ∗ bigSep Finset.univ fun k : Bool × Bool × Fin 7 => Φ (some k)) := by
  have h : (Finset.univ : Finset Cel) = insert none (Finset.univ.map Function.Embedding.some) := by decide
  rw [h, bigSep_insert (by decide), bigSep_map]; rfl

theorem csem_injective : Function.Injective csem := by
  have hx : ∀ b d j b' d' j', SemLoc.dma (xsem b d j) = (SemLoc.dma (xsem b' d' j') : SemLoc sig) → (b, d, j) = (b', d', j') :=
    fun b d j b' d' j' h => by
      have h1 : xsem b d j = xsem b' d' j' := by injection h
      have h2 := congrArg kind h1
      rw [kind_xsem, kind_xsem] at h2
      exact Option.some.inj h2
  rintro (_ | ⟨b, d, j⟩) (_ | ⟨b', d', j'⟩) h
  · rfl
  · exact absurd h (fun h => by cases h)
  · exact absurd h (fun h => by cases h)
  · exact congrArg some (hx b d j b' d' j' h)

theorem kcell_injective : Function.Injective (kcell : Dev nD × Cel → GSem nD τ sig) := by
  rintro ⟨c, k⟩ ⟨c', k'⟩ h
  have h1 : c = c' := congrArg (fun g : GSem nD τ sig => g.1.1) h
  have h2 : k = k' := csem_injective (congrArg Prod.snd h)
  rw [h1, h2]

def xCells : Finset (GSem nD τ sig) := Finset.univ.map ⟨kcell, kcell_injective⟩

/-- The duties of one device's cells: seven at its barrier, and one at each semaphore of a copy. -/
abbrev Dut : Type := Fin 7 ⊕ (Bool × Bool × Fin 7)
abbrev tokOf (x : Dev nD × Dut) : GSem nD τ sig × ℕ × Fin 7 :=
  match x.2 with
  | .inl j => (kcell (x.1, none), 0, j)
  | .inr k => (kcell (x.1, some k), 0, 0)
theorem tokOf_injective : Function.Injective tokOf := by
  rintro ⟨c, k | k⟩ ⟨c', k' | k'⟩ h
  · have h1 := kcell_injective (congrArg Prod.fst h)
    have h2 : k = k' := congrArg (fun x : GSem nD τ sig × ℕ × Fin 7 => x.2.2) h
    rw [show c = c' from congrArg Prod.fst h1, h2]
  · have h1 := congrArg Prod.snd (kcell_injective (congrArg Prod.fst h))
    exact absurd h1 (fun h => by cases h)
  · have h1 := congrArg Prod.snd (kcell_injective (congrArg Prod.fst h))
    exact absurd h1 (fun h => by cases h)
  · have h1 := kcell_injective (congrArg Prod.fst h)
    rw [show c = c' from congrArg Prod.fst h1, show k = k' from Option.some.inj (congrArg Prod.snd h1)]
def xToks : Finset (GSem nD τ sig × ℕ × Fin 7) := Finset.univ.map ⟨tokOf, tokOf_injective⟩

def u₀ : UU := (initOf (Pipeline.cells cfgs cellOf_inj) (Pipeline.launchToks cfgs cellOf_inj), initOf xCells xToks)

/-- The tokens of the duties at device `c`'s own cells. -/
def toks (c : Dev nD) : sProp 𝕄 :=
  iprop((bigSep Finset.univ fun j : Fin 7 => dutyTok EX (barCell c) 0 j)
    ∗ bigSep Finset.univ fun k : Bool × Bool × Fin 7 => dutyTok EX (xCell c k.1 k.2.1 k.2.2) 0 0)
/-- The tokens of the duties that device `c` discharges. -/
def payToks (c : Dev nD) : sProp 𝕄 :=
  iprop((bigSep Finset.univ fun j : Fin 7 => dutyTok EX (barCell (peer c j)) 0 j.rev) ∗ toksX c false ∗ toksX c true)

/-- Each barrier duty goes to the device it names, -/
abbrev turnBar : Dev nD × Fin 7 ≃ Dev nD × Fin 7 where
  toFun x := (peer x.1 x.2, x.2.rev)
  invFun x := (peer x.1 x.2, x.2.rev)
  left_inv x := by show (peer (peer x.1 x.2) x.2.rev, x.2.rev.rev) = x; rw [peer_peer_rev, Fin.rev_rev]
  right_inv x := by show (peer (peer x.1 x.2) x.2.rev, x.2.rev.rev) = x; rw [peer_peer_rev, Fin.rev_rev]
/-- and each receiving side's duty to the sender. -/
abbrev turnX : Dev nD × Fin 7 ≃ Dev nD × Fin 7 where
  toFun x := (peer x.1 x.2, x.2)
  invFun x := (src x.1 x.2, x.2)
  left_inv x := by show (src (peer x.1 x.2) x.2, x.2) = x; rw [src_peer]
  right_inv x := by show (peer (src x.1 x.2) x.2, x.2) = x; rw [peer_src]

theorem deal (e : Dev nD × Fin 7 ≃ Dev nD × Fin 7) (Φ : Dev nD × Fin 7 → sProp 𝕄) :
    (bigSep Finset.univ fun c : Dev nD => bigSep Finset.univ fun j : Fin 7 => Φ (c, j))
      = bigSep Finset.univ fun c : Dev nD => bigSep Finset.univ fun j : Fin 7 => Φ (e (c, j)) := by
  rw [← bigSep_univ_prod Φ, bigSep_univ_equiv e Φ, bigSep_univ_prod fun x => Φ (e x)]

/-- The tokens dealt: every device's own, regrouped, are what every device needs. -/
theorem toks_around : (bigSep Finset.univ fun c : Dev nD => (toks c : sProp 𝕄)) ⊢ bigSep Finset.univ fun c : Dev nD => payToks c := by
  have hx : ∀ c : Dev nD, (bigSep Finset.univ fun k : Bool × Bool × Fin 7 => (dutyTok EX (xCell c k.1 k.2.1 k.2.2) 0 0 : sProp 𝕄)) = _ :=
    fun c => bigSep_copies _
  have ht : ∀ (c : Dev nD) (b : Bool), (toksX c b : sProp 𝕄)
      = iprop((bigSep Finset.univ fun j : Fin 7 => dutyTok EX (xCell c b false j) 0 0) ∗ bigSep Finset.univ fun j : Fin 7 => dutyTok EX (xCell (peer c j) b true j) 0 0) :=
    fun c b => by unfold toksX; rw [bigSep_sep']
  have hb := deal (F := F) turnBar fun x => dutyTok EX (barCell x.1) 0 x.2
  have h0 := deal (F := F) turnX fun x => dutyTok EX (xCell x.1 false true x.2) 0 0
  have h1 := deal (F := F) turnX fun x => dutyTok EX (xCell x.1 true true x.2) 0 0
  unfold toks payToks
  simp only [hx, ht, bigSep_sep']
  dsimp only at hb h0 h1
  rw [hb, h0, h1]
  iintro ⟨H1, ⟨H2, H3⟩, H4, H5⟩
  isplitl [H1]; · iexact H1
  isplitl [H2 H3]
  · isplitl [H2]; · iexact H2
    iexact H3
  isplitl [H4]; · iexact H4
  iexact H5

/-! ## The invariants -/

variable (X : Dev nD → (cc0_stg0_0 : Ref sig .tc).ty.Contents (Elt F))

/-- What a device is handed at first: its cells' states, its positions, and its cells' tokens. -/
def G (c : Dev nD) : sProp 𝕄 :=
  iprop((bigSep Finset.univ fun k : Cel => roundState EX (xRd X) (kcell (c, k)) 0)
    ∗ (bigSep Finset.univ fun k : Cel => iprop(atPos EX (kcell (c, k)) 0 ∅ 0 ∗ reached EX (kcell (c, k)) 0)) ∗ toks c)
/-- And once all the cells are there: everybody's records, its positions, and the tokens it spends. -/
def G' (c : Dev nD) : sProp 𝕄 :=
  iprop(∃ K, records X K ∗ (bigSep Finset.univ fun k : Cel => atPos EX (kcell (c, k)) 0 ∅ 0) ∗ payToks c)

theorem fund_cells : BI.own (EX (initOf xCells xToks)) ⊢ (|==> bigSep Finset.univ (G X) : sProp 𝕄) := by
  have hX (Φ : GSem nD τ sig → sProp 𝕄) : bigSep xCells Φ = bigSep Finset.univ fun c : Dev nD => bigSep Finset.univ fun k : Cel => Φ (kcell (c, k)) := by
    unfold xCells; rw [bigSep_map, bigSep_univ_prod]; rfl
  have hT : bigSep xToks (fun x => (dutyTok EX x.1 x.2.1 x.2.2 : sProp 𝕄)) = bigSep Finset.univ fun c : Dev nD => toks c := by
    unfold xToks; rw [bigSep_map, bigSep_univ_prod]
    exact bigSep_congr fun c _ => by unfold toks; rw [bigSep_univ_sum]; rfl
  iintro HX
  imod (Rounds.fund EX (xRd X) xCells xToks) $$ HX with ⟨Hst, Hr, Hat, Htok⟩
  imodintro
  ihave Hst' := (Entails.of_eq (hX fun g => roundState EX (xRd X) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun k : Bool × Bool × Fin 7 => semVal ((c : Thread nD τ), osem k) 0 := rfl

/-- A device's counters at zero and its cells' states make its cells' invariants. -/
theorem cells_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Cel => iprop(∃ κ : ℕ, cellInv EX (xRd X) κ (kcell (c, k))))
          ∗ (bigSep Finset.univ fun k : Cel => iprop(atPos EX (kcell (c, k)) 0 ∅ 0 ∗ reached EX (kcell (c, k)) 0)) ∗ toks c) := by
  have hs : (bigSep Finset.univ fun k : Cel => (semVal (kcell (c, k)) 0 : sProp 𝕄)) = _ := bigSep_cel _
  rw [unscopedSems0_eq, ownSems0_eq]
  unfold G
  iintro ⟨Hos, Hus, Hst, Hat, Htok⟩
  imod (show iprop((bigSep Finset.univ fun k : Cel => semVal (kcell (c, k)) 0) ∗ bigSep Finset.univ fun k : Cel => roundState EX (xRd X) (kcell (c, k)) 0)
      ⊢ (|={Set.univ}=> bigSep Finset.univ fun k : Cel => iprop(∃ κ : ℕ, cellInv EX (xRd X) κ (kcell (c, k))) : sProp 𝕄) from by
        rw [← bigSep_sep']
        exact (bigSep_mono fun k _ => (Rounds.body_intro EX (xRd X) (kcell (c, k))).trans inv_alloc).trans (bigSep_fupd _ _)) $$ [Hos Hus Hst] with Hinv
  · rw [hs]
    isplitl [Hos Hus]
    · isplitl [Hus]; · iexact Hus
      iexact Hos
    iexact Hst
  imodintro
  isplitl [Hinv]; · iexact Hinv
  isplitl [Hat]; · iexact Hat
  iexact Htok

/-- What all the devices have, regrouped: to each the records of all, its positions and the tokens it spends. -/
theorem regroup :
    (bigSep Finset.univ fun c : Dev nD => iprop((bigSep Finset.univ fun k : Cel => iprop(∃ κ : ℕ, cellInv EX (xRd X) κ (kcell (c, k))))
          ∗ (bigSep Finset.univ fun k : Cel => iprop(atPos EX (kcell (c, k)) 0 ∅ 0 ∗ reached EX (kcell (c, k)) 0)) ∗ toks c) : sProp 𝕄)
      ⊢ bigSep Finset.univ (G' X) := by
  rw [bigSep_sep', bigSep_sep', ← bigSep_univ_prod (fun ck : Dev nD × Cel => iprop(∃ κ : ℕ, cellInv EX (xRd X) κ (kcell ck))),
    bigSep_congr (s := Finset.univ) (fun (c : Dev nD) _ => bigSep_sep' Finset.univ (fun k : Cel => (atPos EX (kcell (c, k)) 0 ∅ 0 : sProp 𝕄)) (fun k => reached EX (kcell (c, k)) 0)),
    bigSep_sep', ← bigSep_univ_prod (fun ck : Dev nD × Cel => (reached EX (kcell ck) 0 : sProp 𝕄))]
  iintro ⟨HI, ⟨Hat, HR⟩, Htok⟩
  ihave HK := (BI.bigSep_exists_pi Finset.univ (fun (ck : Dev nD × Cel) (κ : ℕ) => (cellInv EX (xRd X) κ (kcell ck) : sProp 𝕄))) $$ HI
  icases HK with ⟨%K, HI⟩
  ihave Htk := (toks_around (F := F)) $$ Htok
  ihave #Hrec := (show iprop((bigSep Finset.univ fun ck : Dev nD × Cel => cellInv EX (xRd X) (K ck) (kcell ck)) ∗ bigSep Finset.univ fun ck : Dev nD × Cel => reached EX (kcell ck) 0)
    ⊢ (records X K : sProp 𝕄) from by unfold records; rw [bigSep_sep']) $$ [HI HR]
  · isplitl [HI]; · iexact HI
    iexact HR
  ihave Hrecs := (big_intro (F := F) (Ψ := fun _ : Dev nD => records X K) fun _ => BI.Entails.refl _) $$ Hrec
  iapply (big_mono (F := F) (Φ := fun c : Dev nD => iprop(records X K ∗ (bigSep Finset.univ fun k : Cel => atPos EX (kcell (c, k)) 0 ∅ 0) ∗ payToks c)) (Ψ := G' X)
    fun c => by unfold G'; iintro H; iexists K; iexact H)
  rw [bigSep_sep', bigSep_sep']
  isplitl [Hrecs]; · iexact Hrecs
  isplitl [Hat]; · iexact Hat
  iexact Htk

/-- The cells of all the devices come into being together. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => cells_alloc X c).trans (bigSep_fupd _ _)).trans (BI.fupd_mono (regroup X))

/-! ## What the devices owe one another -/

theorem owe_sum (d : Dev nD) (g : GSem nD τ sig) (n : ℕ) :
    owe d n g () = ∑ r ∈ Finset.range n, if g = (debt d r).1 then (debt d r).2 else 0 := by
  induction n with
  | zero => rfl
  | succ n ih =>
    rw [Finset.sum_range_succ, ← ih]
    show (owe d n + tallyAt (debt d n).1 () (debt d n).2) g () = _
    rw [Pi.add_apply, Finsupp.add_apply, tallyAt_apply]
    congr 1
    by_cases h : g = (debt d n).1
    · rw [if_pos ⟨h, rfl⟩, if_pos h]
    · rw [if_neg fun h' => h h'.1, if_neg h]

/-- Whether debt `r` of device `d` is one to the cell `k` of device `c`. -/
def owesTo (d c : Dev nD) (r : ℕ) : Cel → Bool
  | none => decide (14 ≤ r) && decide (peer d ⟨(20 - r) % 7, Nat.mod_lt _ (by decide)⟩ = c)
  | some (false, true, j) => decide (r < 14) && decide (7 ≤ r) && decide (peer d ⟨(13 - r) % 7, Nat.mod_lt _ (by decide)⟩ = c)
      && decide ((⟨(13 - r) % 7, Nat.mod_lt _ (by decide)⟩ : Fin 7) = j)
  | some (true, true, j) => decide (r < 7) && decide (peer d ⟨(6 - r) % 7, Nat.mod_lt _ (by decide)⟩ = c)
      && decide ((⟨(6 - r) % 7, Nat.mod_lt _ (by decide)⟩ : Fin 7) = j)
  | some (_, false, _) => false
/-- The units that a cell is to receive: seven at a barrier, and a copy's at each receiving side. -/
def units : Cel → ℕ
  | none => 1
  | some _ => N

theorem owesTo_iff (d c : Dev nD) (r : ℕ) (k : Cel) : kcell (c, k) = (debt d r).1 ↔ owesTo d c r k = true := by
  have key : ∀ (a : Dev nD) (k' : Cel), kcell (c, k) = kcell (a, k') ↔ a = c ∧ k' = k := fun a k' =>
    ⟨fun h => by have := kcell_injective h; exact ⟨(congrArg Prod.fst this).symm, (congrArg Prod.snd this).symm⟩, fun ⟨h1, h2⟩ => by rw [h1, h2]⟩
  unfold debt
  split
  · rename_i h
    rw [show (barCell (peer d ⟨(20 - r) % 7, Nat.mod_lt _ (by decide)⟩), 1).1 = kcell (peer d ⟨(20 - r) % 7, Nat.mod_lt _ (by decide)⟩, none) from rfl, key]
    rcases k with _ | ⟨_ | _, _ | _, j⟩ <;> simp [owesTo] <;> omega
  · split
    · rename_i h h'
      rw [show (xCell (peer d ⟨(13 - r) % 7, Nat.mod_lt _ (by decide)⟩) false true ⟨(13 - r) % 7, Nat.mod_lt _ (by decide)⟩, N).1
        = kcell (peer d ⟨(13 - r) % 7, Nat.mod_lt _ (by decide)⟩, some (false, true, ⟨(13 - r) % 7, Nat.mod_lt _ (by decide)⟩)) from rfl, key]
      rcases k with _ | ⟨_ | _, _ | _, j⟩ <;> simp [owesTo, h, h'] <;> omega
    · rename_i h h'
      rw [show (xCell (peer d ⟨(6 - r) % 7, Nat.mod_lt _ (by decide)⟩) true true ⟨(6 - r) % 7, Nat.mod_lt _ (by decide)⟩, N).1
        = kcell (peer d ⟨(6 - r) % 7, Nat.mod_lt _ (by decide)⟩, some (true, true, ⟨(6 - r) % 7, Nat.mod_lt _ (by decide)⟩)) from rfl, key]
      rcases k with _ | ⟨_ | _, _ | _, j⟩ <;> simp [owesTo, h, h'] <;> omega

theorem debt_units (d c : Dev nD) (r : ℕ) (k : Cel) (h : owesTo d c r k = true) : (debt d r).2 = units k := by
  unfold debt
  rcases k with _ | ⟨_ | _, _ | _, j⟩ <;> simp [owesTo] at h
  · rw [if_pos h.1]; rfl
  · rw [if_neg (by omega), if_pos h.1.1.2]; rfl
  · rw [if_neg (by omega), if_neg (by omega)]; rfl

/-- How many of all the devices' debts are to the barrier of `c`, -/
theorem count_bar (c : Dev nD) : (∑ d : Dev nD, ∑ r ∈ Finset.range 21, if owesTo d c r none then 1 else 0) = 7 := by
  revert c; decide +kernel
/-- and to a receiving side. -/
theorem count_recv (c : Dev nD) (b : Bool) (j : Fin 7) :
    (∑ d : Dev nD, ∑ r ∈ Finset.range 21, if owesTo d c r (some (b, true, j)) then 1 else 0) = 1 := by
  revert c b j; decide +kernel

/-- What all the devices together owe a cell. -/
theorem owed_all (c : Dev nD) (k : Cel) :
    (∑ d : Dev nD, owe d 21 (kcell (c, k)) ()) = (∑ d : Dev nD, ∑ r ∈ Finset.range 21, if owesTo d c r k then 1 else 0) * units k := by
  rw [Finset.sum_mul]
  refine Finset.sum_congr rfl fun d _ => ?_
  rw [owe_sum, Finset.sum_mul]
  refine Finset.sum_congr rfl fun r _ => ?_
  by_cases h : owesTo d c r k = true
  · rw [if_pos ((owesTo_iff d c r k).mpr h), if_pos h, debt_units d c r k h, Nat.one_mul]
  · rw [if_neg fun h' => h ((owesTo_iff d c r k).mp h'), if_neg h, Nat.zero_mul]

theorem launch_cell (c : Dev nD) (k : Cel) (n : ℕ) (h : (∑ d : Dev nD, owe d 21 (kcell (c, k)) ()) = n) :
    tallyOn (kcell (c, k)) (launchCredit (Pipeline.owing fun d => owe d 21) 0 (kcell (c, k)))
      = (tallyAt (kcell (c, k)) () n : CellTallies nD τ sig Unit) := by
  unfold tallyAt; refine congrArg _ (Finsupp.ext fun u => ?_); cases u
  rw [Pipeline.launchCredit_owing, Finsupp.single_eq_same, h]

/-- What a device may expect from the others: seven signals at its barrier, and a row at each receiving side. -/
theorem creds (c : Dev nD) :
    (Pipeline.launchCred (fun d => owe d 21) c : sProp 𝕄) ⊢ iprop(cred (tallyAt (barCell c) () 7)
      ∗ (bigSep Finset.univ fun j : Fin 7 => cred (tallyAt (xCell c false true j) () N))
      ∗ bigSep Finset.univ fun j : Fin 7 => cred (tallyAt (xCell c true true j) () N)) := by
  have hr : ∀ b j, (cred (tallyOn (xCell c b true j) (launchCredit (Pipeline.owing fun d => owe d 21) 0 (xCell c b true j))) : sProp 𝕄)
      = cred (tallyAt (xCell c b true j) () N) := fun b j =>
    congrArg cred (launch_cell c (some (b, true, j)) N (by rw [owed_all, count_recv, Nat.one_mul]; rfl))
  have hb : (cred (tallyOn (barCell c) (launchCredit (Pipeline.owing fun d => owe d 21) 0 (barCell c))) : sProp 𝕄)
      = cred (tallyAt (barCell c) () 7) :=
    congrArg cred (launch_cell c none 7 (by rw [owed_all, count_bar]; rfl))
  unfold Pipeline.launchCred
  refine (bigSep_subset (Finset.subset_univ (Finset.univ.map ⟨csem, csem_injective⟩))).trans ?_
  rw [bigSep_map]
  refine (Entails.of_eq (bigSep_cel _)).trans ?_
  refine (sep_mono_right (Entails.of_eq (bigSep_copies _))).trans ?_
  iintro ⟨Hb, ⟨-, H0⟩, -, H1⟩
  isplitl [Hb]
  · iapply (Entails.of_eq hb); iexact Hb
  isplitl [H0]
  · iapply (Entails.of_eq (bigSep_congr (s := Finset.univ) fun (j : Fin 7) _ => hr false j)); iexact H0
  · iapply (Entails.of_eq (bigSep_congr (s := Finset.univ) fun (j : Fin 7) _ => hr true j)); iexact H1

end Cert.KernelIdeal.Softmax

end
-- ==== Proof.KernelIdeal.Launch.lean ====
/-
# The launch

The kernel run on all eight devices at once: every run ends, every semaphore counter is then zero, the argument is as it
was, and the result of device `c` is what `outOf` makes of its block and of the maxima and sums of all the blocks.
-/
module

public import proofs.«01_k».proof.Proof.KernelIdeal.Fund
public import Idealize.ShloMosaic.Lib.Pipeline.CollectiveSegs

@[expose] public section

noncomputable section

namespace Cert.KernelIdeal.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory a run starts from, every counter at zero. -/
abbrev s₀ : MemSt nD τ sig (Elt F) := ⟨m, fun _ => 0, ρ⟩
/-- The block of device `c`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- Its result. -/
def result (c : Dev nD) : (cc0_stg1_0 : Ref sig .tc).ty.Contents (Elt F) :=
  outOf (xstg m ρ c) (mVal (xstg m ρ)) (sVal (xstg m ρ))

/-! ## The proof data -/

/-- What a device has before its body runs, but for the two arrays of rows. -/
def start (c : Dev nD) : sProp 𝕄 :=
  iprop(G' (xstg m ρ) c ∗ levAts L lv ∗ cred (tallyAt (barCell c) () 7)
    ∗ (bigSep Finset.univ fun j : Fin 7 => cred (tallyAt (xCell c false true j) () N))
    ∗ bigSep Finset.univ fun j : Fin 7 => cred (tallyAt (xCell c true true j) () N))
/-- The two arrays of rows, holding anything. -/
def scr (c : Dev nD) : sProp 𝕄 :=
  iprop((∃ f, allPts (F := F) c false fullShare f) ∗ ∃ f, allPts (F := F) c true fullShare f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => result m ρ c
  Φ t := match t with
    | ⟨0, _⟩ => iprop(start m ρ c ∗ scr c)
    | ⟨_ + 1, _⟩ => bodyEnd c
  q _ := fullShare
  owed t := match t with
    | ⟨0, _⟩ => owe c 21
    | ⟨_ + 1, _⟩ => 0

abbrev t₀ : Fin cfg0.N := t0_0

theorem fetched_x (t : Fin cfg0.N) : (cfg0.win (0 : Fin 2)).fetch t = true := by rw [fin_N0 t]; rfl

theorem owns_whole_eq (c : Dev nD) (b : Ref sig .tc) (x : b.ty.Contents (Elt F)) :
    (owns (Ix := Unit) (Name := ℕ) (U := UU) (Lvl := ℕ) (c : Thread nD τ) (Memref.whole b) fullShare x : sProp 𝕄)
      = iprop(∃ f : Buf (Elt F) ((c : Thread nD τ).loc b), ⌜f = x⌝ ∗ (((c : Thread nD τ).loc b) ↦{fullShare} f)) := by
  unfold owns; simp only [Memref.view_whole, View.read_whole, View.set_whole]

theorem allPts_whole (c : Dev nD) (b : Bool) (q : PosShare TreeShare) (f : Buf (Elt F) ((bufM b).view.loc (c : Thread nD τ))) :
    allPts c b q f = (((bufM b).view.loc (c : Thread nD τ)) ↦{q} f : sProp 𝕄) := by
  unfold allPts; rw [whole_set]

/-! ## The body -/

abbrev stg (c : Dev nD) (b : Ref sig .tc) (x : b.ty.Contents (Elt F)) : sProp 𝕄 :=
  iprop(∃ f : Buf (Elt F) ((c : Thread nD τ).loc b), ⌜f = x⌝ ∗ (((c : Thread nD τ).loc b) ↦{fullShare} f))

/-- The body's triple, as the launch asks for it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop((start m ρ c ∗ scr c) ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
    ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5)
      (fun _ => iprop(bodyEnd c ∗ (dats m ρ 0 c).owesAt () t₀.succ ∗ stg c cc0_stg0_0 (xstg m ρ c) ∗ stg c cc0_stg1_0 (result m ρ c)))
  unfold start scr G' payToks Dat.owesAt Pipeline.owesWithin
  rw [show (dats m ρ 0 c).owed t₀.castSucc = owe c 21 from rfl, show (dats m ρ 0 c).owed t₀.succ = owe c 0 from rfl]
  iintro ⟨⟨⟨⟨%K, HR, Hat, HtB, HtM, HtS⟩, Hlev, HcB, HcM, HcS⟩, Hscr⟩, ⟨%W, %hW, HO⟩, ⟨%d0, %g0, %hg0, Hx⟩, ⟨%d1, %g1, %hg1, Hout⟩⟩
  have hx : g0 = xstg m ρ c := by
    rw [hg0]; unfold Dat.before; rw [if_pos (fetched_x t₀)]; rfl
  subst hx
  ihave Hat' := (Entails.of_eq (bigSep_cel _)) $$ Hat
  icases Hat' with ⟨HatB, HatX⟩
  iapply (sound_body (xstg m ρ) K c g1 _)
  unfold bodyRes owesW
  isplitl [HR Hlev HcB HatB HtB HtM HtS HcM HcS HatX Hscr HO Hx Hout]
  · isplitl [HR Hlev HcB HatB HtB HtM HtS HcM HcS HatX Hscr]
    · isplitl [HR]; · iexact HR
      isplitl [Hlev]; · iexact Hlev
      isplitl [HcB]; · iexact HcB
      isplitl [HatB]; · iexact HatB
      isplitl [HtB]; · iexact HtB
      isplitl [HtM]; · iexact HtM
      isplitl [HtS]; · iexact HtS
      isplitl [HcM]; · iexact HcM
      isplitl [HcS]; · iexact HcS
      isplitl [HatX]; · iexact HatX
      iexact Hscr
    isplitl [HO]; · (iexists W; iexact HO)
    isplitl [Hx]; · iexact Hx
    iexact Hout
  iintro ⟨HE, ⟨%W', HO⟩, Hx, Hout⟩
  isplitl [HE]; · iexact HE
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## What the launch asks besides -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owe d 21) c ∗ prngReg c (ρ c) ∗ G' (xstg m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hlev]; · iexact Hlev
    iexact Hc
  · iempintro

theorem scopedRest_scr (c : Dev nD) : (Pipeline.scopedRest cfg0.spec c : sProp 𝕄) = scr c := by
  rw [scopedRest0_eq]; unfold scr; simp only [allPts_whole]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scr c) from rfl, scopedRest_scr]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = bodyEnd c from rfl, scopedRest_scr, ownSems0_eq, unscopedSems0_eq]
  unfold bodyEnd scr
  iintro ⟨H0, H1, HB, HX⟩
  isplitl [HB]; · iexact HB
  isplitl [HX]; · iexact HX
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t => by
    have hq : kind ((cfg0.win w).sem s) = none := by fin_cases w <;> fin_cases s <;> decide
    rcases t with ⟨_ | _, ht⟩
    · exact mayWait_stage c _ hq 21
    · exact mayWait_stage c _ hq 0

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- Every run of the eight devices ends, with each window's array at what the body leaves and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe d 21) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_cells (xstg m ρ)) $$ HX with HG
      imodintro
      isplitl [HP] <;> iassumption)
    (hglob := glob (xstg m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem arg_kept (c : Dev nD) : (dats m ρ 0 c).arrAt (0 : Fin 2) cfg0.N = m ((c : Thread nD τ).loc main_arg0) :=
  (dats (F := F) m ρ 0 c).arrAt_in (0 : Fin 2) rfl _

end Cert.KernelIdeal.Softmax

end
-- ==== Proof.Softmax.Equation.lean ====
/-
# The equation of the two programs

A softmax over a family cut in pieces: taking each piece's maximum and sum of exponentials, and rescaling the sums to the
common maximum, gives the same quotient as taking the maximum and the sum over the whole family. Over the extended reals,
for real entries.
-/
module

public import Idealize.ShloMosaic.PureOps.Ideal
public import Idealize.ShloMosaic.Lib.IdealHost

@[expose] public section

noncomputable section

namespace Cert.Softmax

open Idealize.ShloMosaic
open scoped BigOperators

variable {D J : Type} [Fintype D] [Fintype J] [Nonempty D] [Nonempty J]

/-- The supremum of a finite family of reals that is not empty is a real. -/
theorem sup_real (g : J → EReal) (hg : ∀ j, ∃ r : ℝ, g j = r) : ∃ r : ℝ, Finset.univ.sup g = r := by
  obtain ⟨j, -, hj⟩ := Finset.exists_mem_eq_sup Finset.univ Finset.univ_nonempty g
  obtain ⟨r, hr⟩ := hg j
  exact ⟨r, hj.trans hr⟩

/-- A sum of reals, as extended reals. -/
theorem coe_sum (g : J → ℝ) : ∑ j, (g j : EReal) = ((∑ j, g j : ℝ) : EReal) := by
  classical
  have h : ∀ s : Finset J, ∑ j ∈ s, (g j : EReal) = ((∑ j ∈ s, g j : ℝ) : EReal) := by
    intro s
    induction s using Finset.induction_on with
    | empty => simp
    | insert a s ha ih => rw [Finset.sum_insert ha, Finset.sum_insert ha, ih, EReal.coe_add]
  exact h Finset.univ

/-- The exponential of a difference of reals. -/
theorem exp_sub_coe (a b : ℝ) : Ideal.exp ((a : EReal) - (b : EReal)) = ((Real.exp (a - b) : ℝ) : EReal) := by
  rw [← EReal.coe_sub]; rfl

/-- The pieces' sums, each rescaled to any common real, add up to the whole sum at that real. -/
theorem rescaled (f : D → J → ℝ) (μ : D → ℝ) (M : ℝ) :
    ∑ d, (∑ j, Ideal.exp ((f d j : EReal) - (μ d : EReal))) * Ideal.exp ((μ d : EReal) - (M : EReal))
      = ∑ d, ∑ j, Ideal.exp ((f d j : EReal) - (M : EReal)) := by
  refine Finset.sum_congr rfl fun d _ => ?_
  simp only [exp_sub_coe]
  rw [coe_sum, coe_sum, ← EReal.coe_mul, Finset.sum_mul]
  congr 1
  refine Finset.sum_congr rfl fun j _ => ?_
  rw [← Real.exp_add]
  congr 1
  ring

/-- A sum of exponentials of reals is not zero. -/
theorem sum_exp_ne_zero (f : D → J → ℝ) (M : ℝ) : ∑ d, ∑ j, Ideal.exp ((f d j : EReal) - (M : EReal)) ≠ 0 := by
  simp only [exp_sub_coe, coe_sum]
  have h : 0 < ∑ d, ∑ j, Real.exp (f d j - M) :=
    Finset.sum_pos (fun d _ => Finset.sum_pos (fun j _ => Real.exp_pos _) Finset.univ_nonempty) Finset.univ_nonempty
  exact fun h0 => h.ne' (EReal.coe_eq_zero.mp h0)

/-- The softmax of a family of reals from its pieces is the softmax of the whole. -/
theorem softmax_eq (g : D → J → EReal) (hg : ∀ d j, ∃ r : ℝ, g d j = r) (d₀ : D) (j₀ : J) :
    Ideal.exp (g d₀ j₀ - Finset.univ.sup fun d => Finset.univ.sup (g d))
        * Ideal.div 1 (∑ d, (∑ j, Ideal.exp (g d j - Finset.univ.sup (g d)))
            * Ideal.exp (Finset.univ.sup (g d) - Finset.univ.sup fun d => Finset.univ.sup (g d)))
      = Ideal.div (Ideal.exp (g d₀ j₀ - Finset.univ.sup fun d => Finset.univ.sup (g d)))
          (∑ d, ∑ j, Ideal.exp (g d j - Finset.univ.sup fun d => Finset.univ.sup (g d))) := by
  choose f hf using hg
  choose μ hμ using fun d => sup_real (g d) fun j => ⟨f d j, hf d j⟩
  obtain ⟨M, hM⟩ := sup_real (fun d => Finset.univ.sup (g d)) fun d => ⟨μ d, hμ d⟩
  rw [hM]
  simp only [hμ, hf]
  rw [rescaled, Ideal.mul_one_div (sum_exp_ne_zero f M)]

/-! ## A family of `m * n` as `m` pieces of `n` -/

/-- Entry `j` of piece `d`. -/
def at_ {m n : Nat} (d : Fin m) (j : Fin n) : Fin (m * n) := finProdFinEquiv (d, j)

theorem at_val {m n : Nat} (d : Fin m) (j : Fin n) : (at_ d j).val = d.val * n + j.val := by
  show j.val + n * d.val = _
  rw [Nat.mul_comm, Nat.add_comm]

/-- The sum over the whole is the sum over the pieces; -/
theorem sum_pieces {m n : Nat} (g : Fin (m * n) → EReal) : ∑ i, g i = ∑ d : Fin m, ∑ j : Fin n, g (at_ d j) := by
  rw [← Fintype.sum_prod_type' (f := fun d j => g (at_ d j))]
  exact (Equiv.sum_comp finProdFinEquiv g).symm

/-- the supremum likewise. -/
theorem sup_pieces {m n : Nat} (g : Fin (m * n) → EReal) :
    Finset.univ.sup g = Finset.univ.sup fun d : Fin m => Finset.univ.sup fun j : Fin n => g (at_ d j) := by
  refine le_antisymm (Finset.sup_le fun i _ => ?_) (Finset.sup_le fun d _ => Finset.sup_le fun j _ => Finset.le_sup (Finset.mem_univ _))
  obtain ⟨⟨d, j⟩, rfl⟩ := finProdFinEquiv.surjective i
  exact (Finset.le_sup (f := fun j : Fin n => g (at_ d j)) (Finset.mem_univ j)).trans
    (Finset.le_sup (f := fun d : Fin m => Finset.univ.sup fun j : Fin n => g (at_ d j)) (Finset.mem_univ d))

end Cert.Softmax

end
-- ==== Proof.Softmax.Reference.lean ====
/-
# What the reference computes, entry by entry

Over the extended reals: an entry of the result is the exponential of the entry less the maximum of its row, over the sum
of those exponentials along the row. Its run ends with every semaphore counter at zero, there being none.
-/
module

public import proofs.«01_k».proof.Proof.Gen.ReferenceIdeal.Run
public import proofs.«01_k».proof.Proof.Softmax.Equation
public import Idealize.ShloMosaic.Lib.Quiescent
public import Idealize.ShloMosaic.Lib.ValueIdx
public import Idealize.ShloMosaic.Lib.ValueIdxCore
public import Idealize.ShloMosaic.Lib.IdealHost
public import Idealize.ShloMosaic.Lib.Pipeline.Value
public import Idealize.ShloMosaic.PureOps.Ideal.Laws

@[expose] public section

noncomputable section

namespace Cert.ReferenceIdeal.Softmax

open Cert.ReferenceIdeal Cert.ReferenceIdeal.Gen

open Idealize.ShloMosaic Idealize.ShloMosaic.TcCoe Idealize.ShloMosaic.ValueIdx Idealize.SL.Sem
open scoped BigOperators

/-- Each row's maximum, repeated along the row. -/
def maxes (x : FVec Ideal S2048x16384 .f32) : FVec Ideal S2048x16384 .f32 :=
  broadcastInDim S2048x16384 ![0, 1] bcast_S2048x1_S2048x16384_0_1 (broadcastInDim S2048x1 ![0] bcast_S2048_S2048x1_0
    (Host.reduce FloatOps.maximumf x (constant (F := Ideal) S_ .f32 0xFF800000#32) reducesTo_S2048x16384_S2048_d1 h_S_))
/-- The exponentials of the entries less their row's maximum. -/
def expos (x : FVec Ideal S2048x16384 .f32) : FVec Ideal S2048x16384 .f32 := Host.exp (subf x (maxes x))
/-- The result: those exponentials over their sums along the rows. -/
def out (x : FVec Ideal S2048x16384 .f32) : FVec Ideal S2048x16384 .f32 :=
  Host.divf (expos x) (broadcastInDim S2048x16384 ![0, 1] bcast_S2048x1_S2048x16384_0_1 (broadcastInDim S2048x1 ![0] bcast_S2048_S2048x1_0
    (Host.reduceAdd (expos x) (constant (F := Ideal) S_ .f32 0x00000000#32) reducesTo_S2048x16384_S2048_d1 h_S_)))

/-- The reduced row, as an inserted index. -/
theorem row_reduces : S2048x16384.Reduces [1] S2048 := by decide

theorem lift_row (r : Fin 2048) (i : Fin 16384) : row_reduces.lift (ix1 r) i = ix2 r i := by
  funext b
  match b with
  | ⟨0, _⟩ => rfl
  | ⟨1, _⟩ => rfl

/-- One value per row, repeated along the row. -/
theorem along_row {α : Type} (v : S2048.Idx → α) (r : Fin 2048) (i : Fin 16384) :
    broadcastInDim S2048x16384 ![0, 1] bcast_S2048x1_S2048x16384_0_1 (broadcastInDim S2048x1 ![0] bcast_S2048_S2048x1_0 v) (ix2 r i)
      = v (ix1 r) := by
  refine (broadcastInDim_apply ![0, 1] bcast_S2048x1_S2048x16384_0_1 _ (ix2 r i) (ix2 r (0 : Fin 1)) fun ax => ?_).trans
    (broadcastInDim_apply ![0] bcast_S2048_S2048x1_0 v (ix2 r (0 : Fin 1)) (ix1 r) fun ax => ?_)
  · match ax with
    | ⟨0, _⟩ => rfl
    | ⟨1, _⟩ => rfl
  · match ax with
    | ⟨0, _⟩ => rfl

/-- The maximum of a row. -/
abbrev big (x : S2048x16384.Idx → EReal) (r : Fin 2048) : EReal := Finset.univ.sup fun i : Fin 16384 => x (ix2 r i)

theorem maxes_apply (x : FVec Ideal S2048x16384 .f32) (r : Fin 2048) (i : Fin 16384) : maxes x (ix2 r i) = big x r := by
  unfold maxes
  rw [along_row, Host.reduce_eq_fold_single FloatOps.maximumf x _ reducesTo_S2048x16384_S2048_d1 row_reduces h_S_]
  show (Finset.univ : Finset (Fin 16384)).fold max (Ideal.ofBits .f32 0xFF800000#32 : EReal) _ = _
  rw [show (Ideal.ofBits .f32 0xFF800000#32 : EReal) = ⊥ by simp [Ideal.ofBits, Ideal.ieee]]
  exact Finset.sup_congr rfl fun j _ => congrArg x (lift_row r j)

theorem expos_apply (x : FVec Ideal S2048x16384 .f32) (r : Fin 2048) (i : Fin 16384) :
    expos x (ix2 r i) = Ideal.exp ((x (ix2 r i) : EReal) - big x r) := by
  show Ideal.exp ((x (ix2 r i) : EReal) - (maxes x (ix2 r i) : EReal)) = _
  rw [maxes_apply]

/-- An entry of the result. -/
theorem out_apply (x : FVec Ideal S2048x16384 .f32) (r : Fin 2048) (i : Fin 16384) :
    out x (ix2 r i) = Ideal.div (Ideal.exp ((x (ix2 r i) : EReal) - big x r))
      (∑ j : Fin 16384, Ideal.exp ((x (ix2 r j) : EReal) - big x r)) := by
  unfold out
  rw [hostDivf_apply, expos_apply, along_row, hostReduceAdd_apply,
    Ideal.hostReduceAdd_single reducesTo_S2048x16384_S2048_d1 row_reduces]
  refine congrArg _ ?_
  rw [show (constant (F := Ideal) S_ .f32 0x00000000#32 (Shape.Idx.first h_S_) : EReal) = 0 from Ideal.ofBits_zero_f32, zero_add]
  exact Finset.sum_congr rfl fun j _ => (congrArg (expos x) (lift_row r j)).trans (expos_apply x r j)

variable (m : (ℓ : Loc nD τ sig) → Buf (Elt Ideal) ℓ) (ρ : Dev nD → PrngReg)

/-- Every run ends with the result at `out` of the argument, and the argument as it was. -/
theorem run_value : θ_run (defs (F := Ideal)) (onTc (τ := τ) (main (F := Ideal))) ⟨m, fun _ => 0, ρ⟩ fun r => ∀ c : Dev nD,
      r.2.mem ((c.tc : Thread nD τ).loc main_v8) = out (m ((c.tc : Thread nD τ).loc main_arg0))
      ∧ r.2.mem ((c.tc : Thread nD τ).loc main_arg0) = m ((c.tc : Thread nD τ).loc main_arg0) :=
  Cert.ReferenceIdeal.Value.run m ρ

/-- Every run ends with the argument as it was and every semaphore counter at zero. -/
theorem run_frame : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run (defs (F := Ideal)) _ _).mono (fun r h => ⟨fun c => (h c).2, Idealize.ShloMosaic.sem_eq_zero_of_no_sems (by decide) r.2⟩)
    (run_value m ρ)

end Cert.ReferenceIdeal.Softmax

end
-- ==== Proof.KernelIdeal.Value.lean ====
/-
# What the body computes, entry by entry

Over the extended reals. The rows of a block are cut in four parts of 512, a part in four groups of 128, and the arrays
of maxima and sums hold the entry of row `128 p + l` at `(p, l)`. Each statement below is made once for every part: the
four copies of the same arithmetic in the kernel are one function of the part.
-/
module

public import proofs.«01_k».proof.Proof.KernelIdeal.Arrays
public import Idealize.ShloMosaic.Lib.ValueIdx
public import Idealize.ShloMosaic.Lib.ValueIdxCore
public import Idealize.ShloMosaic.Lib.ValueLayout
public import Idealize.ShloMosaic.Lib.IdealHost
public import Idealize.ShloMosaic.Lib.Pipeline.Value
public import Idealize.ShloMosaic.PureOps.Ideal.Laws

@[expose] public section

noncomputable section

namespace Cert.KernelIdeal.Softmax

open Cert.KernelIdeal Cert.KernelIdeal.Gen

open Idealize.ShloMosaic Idealize.ShloMosaic.ValueIdx
open scoped BigOperators

variable {α : Type}

/-! ## Positions -/

/-- Row `l` of group `k` of a part. -/
def prow (k : Fin 4) (l : Fin 128) : Fin 512 := ⟨128 * k.val + l.val, by omega⟩
/-- Group `k` of part `c`, among the sixteen groups of a block. -/
def grp (c k : Fin 4) : Fin 16 := ⟨4 * c.val + k.val, by omega⟩
/-- Row `l` of group `p` of a block. -/
def brow (p : Fin 16) (l : Fin 128) : Fin 2048 := ⟨128 * p.val + l.val, by omega⟩

/-- Every row of a block is a row of a group, -/
theorem exists_brow (r : Fin 2048) : ∃ p l, r = brow p l :=
  ⟨⟨r.val / 128, by omega⟩, ⟨r.val % 128, by omega⟩, Fin.ext (by show r.val = 128 * (r.val / 128) + r.val % 128; omega)⟩
/-- and every group a group of a part. -/
theorem exists_grp (p : Fin 16) : ∃ c k, p = grp c k :=
  ⟨⟨p.val / 4, by omega⟩, ⟨p.val % 4, by omega⟩, Fin.ext (by show p.val = 4 * (p.val / 4) + p.val % 4; omega)⟩

/-! ## Re-indexings -/

/-- A part, seen as four groups of 128 rows. -/
theorem cast_groups (v : S512x2048.Idx → α) (k : Fin 4) (l : Fin 128) (j : Fin 2048) :
    shapeCast S4x128x2048 (shapeCast S512x2048 v shapeCasts_S512x2048_S512x2048) shapeCasts_S512x2048_S4x128x2048 (ix3 k l j)
      = v (ix2 (prow k l) j) := by
  rw [shapeCast_self]
  refine shapeCast_apply v _ _ _ ?_
  rw [Shape.rowMajor_val_three, Shape.rowMajor_val_two]
  show (128 * k.val + l.val) * 2048 + j.val = (k.val * 128 + l.val) * 2048 + j.val
  omega

/-- And back. -/
theorem cast_part (v : S4x128x2048.Idx → α) (k : Fin 4) (l : Fin 128) (j : Fin 2048) :
    shapeCast S512x2048 v shapeCasts_S4x128x2048_S512x2048 (ix2 (prow k l) j) = v (ix3 k l j) := by
  refine shapeCast_apply v _ _ _ ?_
  rw [Shape.rowMajor_val_three, Shape.rowMajor_val_two]
  show (k.val * 128 + l.val) * 2048 + j.val = (128 * k.val + l.val) * 2048 + j.val
  omega

/-- One value per row, repeated along the row. -/
theorem along_row (v : S4x128.Idx → α) (k : Fin 4) (l : Fin 128) (j : Fin 2048) :
    broadcastTo S4x128x2048 (shapeCast S4x128x1 v shapeCasts_S4x128_S4x128x1) broadcasts_S4x128x1_S4x128x2048 (ix3 k l j)
      = v (ix2 k l) := by
  refine (broadcastTo_apply _ broadcasts_S4x128x1_S4x128x2048 (ix3 k l j) (ix3 k l (0 : Fin 1)) fun ax => ?_).trans ?_
  · match ax with
    | ⟨0, _⟩ => rfl
    | ⟨1, _⟩ => rfl
    | ⟨2, _⟩ => rfl
  · refine shapeCast_apply v _ _ _ ?_
    rw [Shape.rowMajor_val_three, Shape.rowMajor_val_two]
    show k.val * 128 + l.val = (k.val * 128 + l.val) * 1 + 0
    omega

/-- Four arrays of four groups one after another are the sixteen groups. -/
theorem four_parts (f : Fin 4 → S4x128.Idx → α) (c k : Fin 4) (l : Fin 128) :
    concatenate S16x128 0 [⟨S4x128, f 0⟩, ⟨S4x128, f 1⟩, ⟨S4x128, f 2⟩, ⟨S4x128, f 3⟩]
      concatenates_S4x128_S4x128_S4x128_S4x128_S16x128_d0 (ix2 (grp c k) l) = f c (ix2 k l) := by
  refine concatenate_ofFn_apply (t := S16x128) (s₁ := S4x128) 0 f concatenates_S4x128_S4x128_S4x128_S4x128_S16x128_d0 rfl 4 rfl
    (ix2 (grp c k) l) c ?_ (ix2 k l) ?_ fun b hb => ?_
  · show (4 * c.val + k.val) / 4 = c.val; omega
  · show k.val = (4 * c.val + k.val) % 4; omega
  · match b, hb with
    | ⟨0, _⟩, hb => exact absurd rfl hb
    | ⟨1, _⟩, _ => rfl

/-! ## Reductions -/

/-- The pattern of minus infinity is the least extended real. -/
theorem neg_inf : Ideal.ofBits .f32 0xFF800000#32 = ⊥ := by simp [Ideal.ofBits, Ideal.ieee]

/-- A fold of the maximum from minus infinity is the supremum. -/
theorem fold_max {n : Nat} (g : Fin n → EReal) :
    (Finset.univ : Finset (Fin n)).fold max (FloatOps.ofBits (F := Ideal) .f32 0xFF800000#32 : EReal) g = Finset.univ.sup g := by
  rw [show (FloatOps.ofBits (F := Ideal) .f32 0xFF800000#32 : EReal) = ⊥ from neg_inf]
  rfl

/-- The maximum along each row of four groups; -/
theorem max_row (v : FVec Ideal S4x128x2048 .f32) (k : Fin 4) (l : Fin 128) :
    multiReduction .maximumf [2] S4x128 v 0xFF800000#32 reduces_S4x128x2048_S4x128 (.inl rfl) rfl (ix2 k l)
      = Finset.univ.sup fun j : Fin 2048 => (v (ix3 k l j) : EReal) := by
  refine (Ideal.multiReduction_maximumf_single v _ reduces_S4x128x2048_S4x128 (.inl rfl) rfl (ix2 k l)).trans ?_
  refine (fold_max _).trans (Finset.sup_congr rfl fun j _ => congrArg v ?_)
  funext b
  match b with
  | ⟨0, _⟩ => rfl
  | ⟨1, _⟩ => rfl
  | ⟨2, _⟩ => rfl

/-- the sum along each row; -/
theorem sum_row (v : FVec Ideal S4x128x2048 .f32) (k : Fin 4) (l : Fin 128) :
    multiReduction .add [2] S4x128 v 0x00000000#32 reduces_S4x128x2048_S4x128 (.inl rfl) rfl (ix2 k l)
      = ∑ j : Fin 2048, (v (ix3 k l j) : EReal) := by
  refine (Ideal.multiReduction_add_single v _ reduces_S4x128x2048_S4x128 (.inl rfl) rfl (ix2 k l)).trans ?_
  refine Finset.sum_congr rfl fun j _ => congrArg v ?_
  funext b
  match b with
  | ⟨0, _⟩ => rfl
  | ⟨1, _⟩ => rfl
  | ⟨2, _⟩ => rfl

/-- the maximum over the devices; -/
theorem max_dev (v : FVec Ideal S8x16x128 .f32) (p : Fin 16) (l : Fin 128) :
    multiReduction .maximumf [0] S16x128 v 0xFF800000#32 reduces_S8x16x128_S16x128 (.inl rfl) rfl (ix2 p l)
      = Finset.univ.sup fun d : Fin 8 => (v (ix3 d p l) : EReal) := by
  refine (Ideal.multiReduction_maximumf_single v _ reduces_S8x16x128_S16x128 (.inl rfl) rfl (ix2 p l)).trans ?_
  refine (fold_max _).trans (Finset.sup_congr rfl fun d _ => congrArg v ?_)
  funext b
  match b with
  | ⟨0, _⟩ => rfl
  | ⟨1, _⟩ => rfl
  | ⟨2, _⟩ => rfl

/-- and the sum over the devices. -/
theorem sum_dev (v : FVec Ideal S8x16x128 .f32) (p : Fin 16) (l : Fin 128) :
    multiReduction .add [0] S16x128 v 0x00000000#32 reduces_S8x16x128_S16x128 (.inl rfl) rfl (ix2 p l)
      = ∑ d : Fin 8, (v (ix3 d p l) : EReal) := by
  refine (Ideal.multiReduction_add_single v _ reduces_S8x16x128_S16x128 (.inl rfl) rfl (ix2 p l)).trans ?_
  refine Finset.sum_congr rfl fun d _ => congrArg v ?_
  funext b
  match b with
  | ⟨0, _⟩ => rfl
  | ⟨1, _⟩ => rfl
  | ⟨2, _⟩ => rfl

/-! ## A part of a block -/

theorem part_inb (c : Fin 4) (a) : (![512 * c.val, 0] : Fin 2 → Nat) a + S512x2048.size a ≤ S2048x2048.size a := by
  fin_cases c <;> fin_cases a <;> decide

/-- Part `c` of a block. -/
def part (c : Fin 4) (x : (cc0_stg0_0 : Ref sig .tc).ty.Contents (Elt Ideal)) : Vec Ideal S512x2048 .f32 :=
  chk (512 * c.val) (part_inb c) x

/-- A block's entry. -/
abbrev ent (x : (cc0_stg0_0 : Ref sig .tc).ty.Contents (Elt Ideal)) (r j : Fin 2048) : EReal := (x : S2048x2048.Idx → EReal) (ix2 r j)

/-- An entry of a part is one of the block. -/
theorem part_apply (c k : Fin 4) (l : Fin 128) (j : Fin 2048) (x : (cc0_stg0_0 : Ref sig .tc).ty.Contents (Elt Ideal)) :
    part c x (ix2 (prow k l) j) = ent x (brow (grp c k) l) j := by
  refine congrArg (x : S2048x2048.Idx → EReal) ?_
  funext b
  match b with
  | ⟨0, _⟩ => exact Fin.ext (show 512 * c.val + 1 * (128 * k.val + l.val) = 128 * (4 * c.val + k.val) + l.val by omega)
  | ⟨1, _⟩ => exact Fin.ext (show 0 + 1 * j.val = j.val by omega)

/-- The maximum of a block's row; -/
def big (x : (cc0_stg0_0 : Ref sig .tc).ty.Contents (Elt Ideal)) (r : Fin 2048) : EReal := Finset.univ.sup fun j : Fin 2048 => ent x r j
/-- the sum of the exponentials of its entries less that maximum. -/
def tot (x : (cc0_stg0_0 : Ref sig .tc).ty.Contents (Elt Ideal)) (r : Fin 2048) : EReal :=
  ∑ j : Fin 2048, Ideal.exp (ent x r j - big x r)

/-- The maxima of a part's rows, as the kernel takes them; -/
def top (v : Vec Ideal S512x2048 .f32) : FVec Ideal S4x128 .f32 :=
  multiReduction .maximumf [2] S4x128
    (shapeCast S4x128x2048 (shapeCast S512x2048 v shapeCasts_S512x2048_S512x2048) shapeCasts_S512x2048_S4x128x2048)
    0xFF800000#32 reduces_S4x128x2048_S4x128 (.inl rfl) rfl
/-- its entries' exponentials, each less its row's value in `M`; -/
def expo (M : FVec Ideal S4x128 .f32) (v : Vec Ideal S512x2048 .f32) : FVec Ideal S4x128x2048 .f32 :=
  exp (subf (shapeCast S4x128x2048 (shapeCast S512x2048 v shapeCasts_S512x2048_S512x2048) shapeCasts_S512x2048_S4x128x2048)
    (broadcastTo S4x128x2048 (shapeCast S4x128x1 M shapeCasts_S4x128_S4x128x1) broadcasts_S4x128x1_S4x128x2048))
/-- their sums along the rows; -/
def low (v : Vec Ideal S512x2048 .f32) : FVec Ideal S4x128 .f32 :=
  multiReduction .add [2] S4x128 (expo (top v) v) 0x00000000#32 reduces_S4x128x2048_S4x128 (.inl rfl) rfl
/-- and the exponentials scaled by their row's value in `R`. -/
def scaled (M R : FVec Ideal S4x128 .f32) (v : Vec Ideal S512x2048 .f32) : FVec Ideal S512x2048 .f32 :=
  shapeCast S512x2048 (mulf (expo M v)
    (broadcastTo S4x128x2048 (shapeCast S4x128x1 R shapeCasts_S4x128_S4x128x1) broadcasts_S4x128x1_S4x128x2048))
    shapeCasts_S4x128x2048_S512x2048

theorem top_apply (c k : Fin 4) (l : Fin 128) (x : (cc0_stg0_0 : Ref sig .tc).ty.Contents (Elt Ideal)) :
    top (part c x) (ix2 k l) = big x (brow (grp c k) l) := by
  unfold top big
  rw [max_row]
  refine Finset.sup_congr rfl fun j _ => ?_
  rw [cast_groups, part_apply]

theorem expo_apply (M : FVec Ideal S4x128 .f32) (c k : Fin 4) (l : Fin 128) (j : Fin 2048)
    (x : (cc0_stg0_0 : Ref sig .tc).ty.Contents (Elt Ideal)) :
    expo M (part c x) (ix3 k l j) = Ideal.exp (ent x (brow (grp c k) l) j - (M (ix2 k l) : EReal)) := by
  unfold expo
  show Ideal.exp (_ - _) = _
  rw [cast_groups, along_row, part_apply]

theorem low_apply (c k : Fin 4) (l : Fin 128) (x : (cc0_stg0_0 : Ref sig .tc).ty.Contents (Elt Ideal)) :
    low (part c x) (ix2 k l) = tot x (brow (grp c k) l) := by
  unfold low tot
  rw [sum_row]
  refine Finset.sum_congr rfl fun j _ => ?_
  rw [expo_apply, top_apply]

theorem scaled_apply (M R : FVec Ideal S4x128 .f32) (c k : Fin 4) (l : Fin 128) (j : Fin 2048)
    (x : (cc0_stg0_0 : Ref sig .tc).ty.Contents (Elt Ideal)) :
    scaled M R (part c x) (ix2 (prow k l) j)
      = Ideal.exp (ent x (brow (grp c k) l) j - (M (ix2 k l) : EReal)) * (R (ix2 k l) : EReal) := by
  unfold scaled
  rw [cast_part]
  show (_ : EReal) * _ = _
  rw [expo_apply, along_row]

/-! ## The rows a device sends -/

/-- The row of maxima: the maximum of each row of the block. -/
theorem mRow_apply (x : (cc0_stg0_0 : Ref sig .tc).ty.Contents (Elt Ideal)) (u : Fin 1) (p : Fin 16) (l : Fin 128) :
    mRow x (ix3 u p l) = big x (brow p l) := by
  obtain ⟨c, k, rfl⟩ := exists_grp p
  show shapeCast S1x16x128 (concatenate S16x128 0 [⟨S4x128, top (part 0 x)⟩, ⟨S4x128, top (part 1 x)⟩, ⟨S4x128, top (part 2 x)⟩,
    ⟨S4x128, top (part 3 x)⟩] concatenates_S4x128_S4x128_S4x128_S4x128_S16x128_d0) shapeCasts_S16x128_S1x16x128 (ix3 u (grp c k) l) = _
  rw [shapeCast_ab_1ab_apply]
  exact (four_parts (fun c => top (part c x)) c k l).trans (top_apply c k l x)

/-- The row of sums: of each row of the block, the exponentials of its entries less its maximum. -/
theorem sRow_apply (x : (cc0_stg0_0 : Ref sig .tc).ty.Contents (Elt Ideal)) (u : Fin 1) (p : Fin 16) (l : Fin 128) :
    sRow x (ix3 u p l) = tot x (brow p l) := by
  obtain ⟨c, k, rfl⟩ := exists_grp p
  show shapeCast S1x16x128 (concatenate S16x128 0 [⟨S4x128, low (part 0 x)⟩, ⟨S4x128, low (part 1 x)⟩, ⟨S4x128, low (part 2 x)⟩,
    ⟨S4x128, low (part 3 x)⟩] concatenates_S4x128_S4x128_S4x128_S4x128_S16x128_d0) shapeCasts_S16x128_S1x16x128 (ix3 u (grp c k) l) = _
  rw [shapeCast_ab_1ab_apply]
  exact (four_parts (fun c => low (part c x)) c k l).trans (low_apply c k l x)

/-! ## The result -/

/-- The maximum over the devices, at a row. -/
theorem pay9_apply (mg : FVec Ideal S8x16x128 .f32) (p : Fin 16) (l : Fin 128) :
    k0_pay9 mg (ix2 p l) = Finset.univ.sup fun d : Fin 8 => (mg (ix3 d p l) : EReal) := max_dev mg p l

/-- The factor of a row: one over the devices' sums, each rescaled to the common maximum `M`. -/
theorem pay10_apply (mg sg : FVec Ideal S8x16x128 .f32) (M : FVec Ideal S16x128 .f32) (p : Fin 16) (l : Fin 128) :
    k0_pay10 mg M sg (ix2 p l)
      = Ideal.div 1 (∑ d : Fin 8, (sg (ix3 d p l) : EReal) * Ideal.exp ((mg (ix3 d p l) : EReal) - (M (ix2 p l) : EReal))) := by
  unfold k0_pay10
  show Ideal.div (Ideal.ofBits .f32 0x3F800000#32) _ = _
  rw [Ideal.ofBits_one_f32, sum_dev]
  refine congrArg _ (Finset.sum_congr rfl fun d _ => ?_)
  show (_ : EReal) * Ideal.exp (_ - _) = _
  congr 3
  refine (broadcastTo_apply _ broadcasts_S1x16x128_S8x16x128 (ix3 d p l) (ix3 (0 : Fin 1) p l) fun ax => ?_).trans
    (shapeCast_ab_1ab_apply M shapeCasts_S16x128_S1x16x128 0 p l)
  match ax with
  | ⟨0, _⟩ => rfl
  | ⟨1, _⟩ => rfl
  | ⟨2, _⟩ => rfl

/-- Four groups of the sixteen. -/
theorem groups_apply (c : Fin 4) (M : S16x128.Idx → α) (h : S16x128.Slices ![4 * c.val, 0] S4x128) (k : Fin 4) (l : Fin 128) :
    extractStridedSlice S4x128 ![4 * c.val, 0] M h (ix2 k l) = M (ix2 (grp c k) l) :=
  slice2_axis0_apply (4 * c.val) M h k l (grp c k) rfl

/-- Which part a row of the result comes from. -/
theorem parts_apply (w : Fin 4 → Vec Ideal S512x2048 .f32) (c k : Fin 4) (l : Fin 128) (j : Fin 2048) :
    parts (w 0) (w 1) (w 2) (w 3) (ix2 (brow (grp c k) l) j) = w c (ix2 (prow k l) j) := by
  have hl : lix (ix2 (brow (grp c k) l) j) = ix2 (prow k l) j := by
    funext b
    match b with
    | ⟨0, _⟩ => exact Fin.ext (show (128 * (4 * c.val + k.val) + l.val) % 512 = 128 * k.val + l.val by omega)
    | ⟨1, _⟩ => rfl
  unfold parts
  rw [hl]
  have hv : ((ix2 (brow (grp c k) l) j : S2048x2048.Idx) 0).val = 128 * (4 * c.val + k.val) + l.val := rfl
  rw [hv]
  fin_cases c
  · rw [if_pos (by show 128 * (4 * 0 + k.val) + l.val < 512; omega)]; rfl
  · rw [if_neg (by show ¬ 128 * (4 * 1 + k.val) + l.val < 512; omega), if_pos (by show 128 * (4 * 1 + k.val) + l.val < 1024; omega)]; rfl
  · rw [if_neg (by show ¬ 128 * (4 * 2 + k.val) + l.val < 512; omega), if_neg (by show ¬ 128 * (4 * 2 + k.val) + l.val < 1024; omega),
      if_pos (by show 128 * (4 * 2 + k.val) + l.val < 1536; omega)]; rfl
  · rw [if_neg (by show ¬ 128 * (4 * 3 + k.val) + l.val < 512; omega), if_neg (by show ¬ 128 * (4 * 3 + k.val) + l.val < 1024; omega),
      if_neg (by show ¬ 128 * (4 * 3 + k.val) + l.val < 1536; omega)]; rfl

theorem groups_slices (c : Fin 4) : S16x128.Slices ![4 * c.val, 0] S4x128 := by fin_cases c <;> decide

/-- An entry of the result: its exponential less the common maximum of its row, times the row's factor. -/
theorem outOf_apply (x : (cc0_stg0_0 : Ref sig .tc).ty.Contents (Elt Ideal)) (mg sg : FVec Ideal S8x16x128 .f32) (p : Fin 16)
    (l : Fin 128) (j : Fin 2048) :
    outOf x mg sg (ix2 (brow p l) j)
      = Ideal.exp (ent x (brow p l) j - (k0_pay9 (F := Ideal) mg (ix2 p l) : EReal)) * (k0_pay10 (F := Ideal) mg (k0_pay9 mg) sg (ix2 p l) : EReal) := by
  obtain ⟨c, k, rfl⟩ := exists_grp p
  have h := parts_apply (fun c => scaled (extractStridedSlice S4x128 ![4 * c.val, 0] (k0_pay9 mg) (groups_slices c))
    (extractStridedSlice S4x128 ![4 * c.val, 0] (k0_pay10 mg (k0_pay9 mg) sg) (groups_slices c)) (part c x)) c k l j
  refine Eq.trans ?_ (h.trans ?_)
  · rfl
  · rw [scaled_apply, groups_apply, groups_apply]

end Cert.KernelIdeal.Softmax

end
-- ==== Proof.KernelIdeal.Result.lean ====
/-
# The result array after a run

The one point of the grid stages the whole argument and writes back the whole result, so a device's argument block is its
argument array and its result array ends as the body's result.
-/
module

public import proofs.«01_k».proof.Proof.KernelIdeal.Launch
public import Idealize.ShloMosaic.Lib.Pipeline.ValueKit

@[expose] public section

noncomputable section

namespace Cert.KernelIdeal.Softmax

open Cert.KernelIdeal Cert.KernelIdeal.Gen

open Idealize.ShloMosaic
open Idealize.ShloMosaic.TcCoe
open Idealize.SL Idealize.SL.RA Idealize.SL.BI Idealize.SL.Sem

variable {F : FTy → Type} [FloatOps F]

variable (m : (ℓ : Loc nD τ sig) → Buf (Elt F) ℓ) (ρ : Dev nD → PrngReg)

/-- What is staged of a device's argument is all of it. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- A device's result array ends as the body's result. -/
theorem result_arr (c : Dev nD) : (dats m ρ 0 c).arrAt (1 : Fin 2) cfg0.N = result m ρ c := by
  have hz : (fun a => (win0_1.index (0 : Fin 1)) a * main_v1.ty.shape.size a) = fun _ => 0 :=
    funext fun a => by fin_cases a <;> decide
  have hr : (win0_1.blk (0 : Fin 1)).view.read (Elt F) ((dats m ρ 0 c).arrAt (1 : Fin 2) cfg0.N) = result m ρ c := by
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  rw [← hr]
  exact (Memref.read_access_unit_zero (Elt F) main_v1 hz (fun a => by fin_cases a <;> decide) _).symm

/-- Every run of the eight devices ends with each device's result and argument arrays as stated. -/
theorem run_value : θ_run defs (onTc (τ := τ) (main (F := F))) (⟨m, fun _ => 0, ρ⟩ : MemSt nD τ sig (Elt F)) (fun r => ∀ c : Dev nD,
      r.2.mem ((c : Thread nD τ).loc main_v1)
          = outOf (m ((c : Thread nD τ).loc main_arg0)) (mVal fun d : Dev nD => m ((d : Thread nD τ).loc main_arg0))
              (sVal fun d : Dev nD => m ((d : Thread nD τ).loc main_arg0))
        ∧ r.2.mem ((c : Thread nD τ).loc main_arg0) = m ((c : Thread nD τ).loc main_arg0)) := by
  refine (θ_run defs _ _).mono (fun r h c => ⟨(h.1 c (1 : Fin 2)).trans ((result_arr m ρ c).trans ?_),
    (h.1 c (0 : Fin 2)).trans (arg_kept m ρ c)⟩) (run_main m ρ)
  unfold result
  rw [xstg_eq m ρ c, show xstg m ρ = fun d : Dev nD => m ((d : Thread nD τ).loc main_arg0) from funext (xstg_eq m ρ)]

end Cert.KernelIdeal.Softmax

end
-- ==== Proof.Softmax.Finite.lean ====
/-
# The precondition, entry by entry

If the precondition holds of a block then every entry of the block is a real number.
-/
module

public import proofs.«01_k».proof.Pre_finite_KernelIdeal
public import proofs.«01_k».proof.Proof.Gen.Pre_finite_KernelIdeal
public import Idealize.ShloMosaic.Lib.ReduceAll
public import Idealize.ShloMosaic.Lib.Affine
public import Idealize.ShloMosaic.PureOps.Ideal.Laws

@[expose] public section

noncomputable section

namespace Cert.Pre_finite_KernelIdeal.Softmax

open Cert.Pre_finite_KernelIdeal Cert.Pre_finite_KernelIdeal.Gen

open Idealize.ShloMosaic

instance : Subsingleton S_.Idx := ⟨fun a b => funext fun i => i.elim0⟩

/-- A condition whose bit is 1 holds. -/
theorem of_bit {p : Prop} [Decidable p] (h : BitVec.ofBool (decide p) = 1#1) : p := by
  by_contra hp
  rw [decide_eq_false hp] at h
  exact absurd h (by decide)

/-- Every entry of a block with the precondition is a real. -/
theorem real_of_finite (x : FVec Ideal S2048x2048 .f32) (h : fn (F := Ideal) x = fun _ => 1#1) (i : S2048x2048.Idx) :
    ∃ r : ℝ, (x i : EReal) = r := by
  have h0 := congrFun h (fun a => a.elim0)
  have hi := Host.reduce_andi_all _ _ _ _ _ h0 i
  obtain ⟨h1, h2⟩ := IntOp.andi_eq_one.1 hi
  have ht : (x i : EReal) < Ideal.ofBits .f32 0x7F800000#32 := of_bit h1
  have hb : (Ideal.ofBits .f32 0xFF800000#32 : EReal) < x i := of_bit h2
  rw [show (Ideal.ofBits .f32 0x7F800000#32 : EReal) = ⊤ by simp [Ideal.ofBits, Ideal.ieee]] at ht
  rw [show (Ideal.ofBits .f32 0xFF800000#32 : EReal) = ⊥ by simp [Ideal.ofBits, Ideal.ieee]] at hb
  exact ⟨EReal.toReal (x i), (EReal.coe_toReal ht.ne hb.ne').symm⟩

end Cert.Pre_finite_KernelIdeal.Softmax

end
-- ==== Proof.Softmax.Algebraic.lean ====
/-
# The kernel's result is the reference's

Over the extended reals, from blocks of one array of reals: what each device computes from its block, and from the maxima
and sums of all the blocks, is its block of the softmax of the whole array along its rows.
-/
module

public import proofs.«01_k».proof.Defs
public import proofs.«01_k».proof.Proof.KernelIdeal.Value
public import proofs.«01_k».proof.Proof.KernelIdeal.Result
public import proofs.«01_k».proof.Proof.Softmax.Reference
public import proofs.«01_k».proof.Proof.Softmax.Finite

@[expose] public section

noncomputable section

namespace Cert.Softmax

open Cert.KernelIdeal.Softmax (ent big tot brow exists_brow outOf outOf_apply mVal sVal mRow_apply sRow_apply pay9_apply pay10_apply)

open Idealize.ShloMosaic hiding ix1 ix2 ix3 eq_ix2 eq_ix3
open Idealize.ShloMosaic.TcCoe Idealize.ShloMosaic.ValueIdx Idealize.SL.Sem
open scoped BigOperators

/-- A block of the whole array. -/
abbrev blk (c : Fin 8) (x : (⟨2, ![2048, 16384]⟩ : Shape).Idx → EReal) : (⟨2, ![2048, 2048]⟩ : Shape).Idx → EReal :=
  Layout.block ⟨2, ![2048, 2048]⟩ ⟨2, ![2048, 16384]⟩ 1 8 c x

/-- An entry of a block is one of the whole array: column `j` of block `c` is column `2048 c + j`. -/
theorem blk_apply (c : Fin 8) (x : (⟨2, ![2048, 16384]⟩ : Shape).Idx → EReal) (r j : Fin 2048) :
    blk c x (ix2 r j) = x (ix2 r (at_ c j : Fin (8 * 2048))) := by
  refine congrArg x ?_
  funext b
  match b with
  | ⟨0, _⟩ => rfl
  | ⟨1, _⟩ => exact Fin.ext (at_val c j).symm

/-- The maximum of a row of the whole array is the greatest of the blocks' maxima. -/
theorem big_pieces (x : (⟨2, ![2048, 16384]⟩ : Shape).Idx → EReal) (r : Fin 2048) :
    Cert.ReferenceIdeal.Softmax.big x r = Finset.univ.sup fun d : Fin 8 => Finset.univ.sup fun j : Fin 2048 => blk d x (ix2 r j) := by
  refine (sup_pieces (m := 8) (n := 2048) fun i => x (ix2 r i)).trans ?_
  exact Finset.sup_congr rfl fun d _ => Finset.sup_congr rfl fun j _ => (blk_apply d x r j).symm

/-- The result of device `c` is its block of the reference's result, if every block's entries are reals. -/
theorem outOf_eq (x : (⟨2, ![2048, 16384]⟩ : Shape).Idx → EReal) (hx : ∀ d i, ∃ a : ℝ, blk d x i = a) (c : Fin 8) :
    outOf (F := Ideal) (blk c x) (mVal (F := Ideal) fun d => blk d x) (sVal (F := Ideal) fun d => blk d x)
      = blk c (Cert.ReferenceIdeal.Softmax.out x) := by
  funext i
  obtain ⟨r, j, rfl⟩ : ∃ r j : Fin 2048, i = ix2 r j := ⟨i 0, i 1, eq_ix2 i⟩
  obtain ⟨p, l, rfl⟩ := exists_brow r
  have hm (d : Fin 8) : mVal (F := Ideal) (fun d => blk d x) (ix3 d p l)
      = Finset.univ.sup fun j : Fin 2048 => blk d x (ix2 (brow p l) j) := mRow_apply (blk d x) 0 p l
  have hs (d : Fin 8) : sVal (F := Ideal) (fun d => blk d x) (ix3 d p l)
      = ∑ j : Fin 2048, Ideal.exp (blk d x (ix2 (brow p l) j) - Finset.univ.sup fun j : Fin 2048 => blk d x (ix2 (brow p l) j)) :=
    sRow_apply (blk d x) 0 p l
  refine (outOf_apply (blk c x) _ _ p l j).trans ?_
  rw [pay10_apply, pay9_apply]
  simp only [hm, hs]
  refine (softmax_eq (fun (d : Fin 8) (j : Fin 2048) => blk d x (ix2 (brow p l) j)) (fun d j => hx d _) c j).trans ?_
  rw [blk_apply c (Cert.ReferenceIdeal.Softmax.out x)]
  refine Eq.trans ?_ (Cert.ReferenceIdeal.Softmax.out_apply x (brow p l) (at_ c j)).symm
  rw [big_pieces]
  refine congrArg₂ Ideal.div ?_ ?_
  · rw [blk_apply c x]
  · refine Eq.trans ?_ (sum_pieces (m := 8) (n := 2048) fun i => Ideal.exp (x (ix2 (brow p l) i)
      - Finset.univ.sup fun d : Fin 8 => Finset.univ.sup fun j : Fin 2048 => blk d x (ix2 (brow p l) j))).symm
    exact Finset.sum_congr rfl fun d _ => Finset.sum_congr rfl fun j _ => by rw [blk_apply d x]

/-- The value claim: the eight devices end with the blocks of what the reference ends with. -/
theorem algebraic : Cert.algebraic_KernelIdeal_ReferenceIdeal_pre_finite_KernelIdeal := by
  intro m g m' g' hpre hblk
  refine ⟨Cert.ReferenceIdeal.Softmax.out (m' (((0 : Dev Cert.ReferenceIdeal.nD).tc : Thread _ _).loc Cert.ReferenceIdeal.main_arg0)), ?_, ?_⟩
  · refine (θ_run (Cert.KernelIdeal.defs (F := Ideal)) _ _).mono (fun r h c => ⟨(h c).1.trans ?_, (h c).2⟩)
      (Cert.KernelIdeal.Softmax.run_value (F := Ideal) m g)
    have hx : ∀ (d : Fin 8) i, ∃ a : ℝ,
        blk d (m' (((0 : Dev Cert.ReferenceIdeal.nD).tc : Thread _ _).loc Cert.ReferenceIdeal.main_arg0)) i = a := fun d i => by
      have h1 := Cert.Pre_finite_KernelIdeal.Softmax.real_of_finite _ (hpre d) i
      rwa [hblk d] at h1
    rw [show (fun d : Dev Cert.KernelIdeal.nD => m ((d : Thread Cert.KernelIdeal.nD Cert.KernelIdeal.τ).loc Cert.KernelIdeal.main_arg0))
      = fun d : Fin 8 => blk d (m' (((0 : Dev Cert.ReferenceIdeal.nD).tc : Thread _ _).loc Cert.ReferenceIdeal.main_arg0)) from funext hblk, hblk c]
    exact outOf_eq _ hx c
  · exact (θ_run (Cert.ReferenceIdeal.defs (F := Ideal)) _ _).mono (fun r h => h 0) (Cert.ReferenceIdeal.Softmax.run_value m' g')

end Cert.Softmax

end
-- ==== Proof.lean ====
/-
# The softmax of rows cut over eight devices

The claims, put together: the kernel and its reading over the extended reals run to the end with their arguments
unchanged and every counter at zero, so does the reference, and over the extended reals each device's result is its block
of the reference's. The exchange between the devices is in `Proof.KernelIdeal` (and, on words, in `Proof.Kernel`), the
mathematics in `Proof.Softmax`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Kernel.Launch
public import proofs.«01_k».proof.Proof.KernelIdeal.Launch
public import proofs.«01_k».proof.Proof.Softmax.Reference
public import proofs.«01_k».proof.Proof.Softmax.Algebraic
public import Idealize.ShloMosaic.Adequacy
public import Idealize.ShloMosaic.Init

@[expose] public section

noncomputable section

namespace Cert.Proof

open Idealize.ShloMosaic Idealize.SL.Sem

/-- The kernel, on words: every run of the eight devices ends, the arguments as they were, every counter at zero. -/
theorem frame_kernel : Cert.quiescent_Kernel := fun m ρ _ =>
  (θ_run (Cert.Kernel.defs (F := Bits)) _ _).mono (fun r h => ⟨fun c => (h.1 c (0 : Fin 2)).trans (Cert.Kernel.Softmax.arg_kept m ρ c), h.2⟩)
    (Cert.Kernel.Softmax.run_main (F := Bits) m ρ)

/-- The same over the extended reals, -/
theorem frame_ideal : Cert.quiescent_KernelIdeal := fun m ρ _ =>
  (θ_run (Cert.KernelIdeal.defs (F := Ideal)) _ _).mono (fun r h => ⟨fun c => (h.1 c (0 : Fin 2)).trans (Cert.KernelIdeal.Softmax.arg_kept m ρ c), h.2⟩)
    (Cert.KernelIdeal.Softmax.run_main (F := Ideal) m ρ)

/-- and so under the precondition too. -/
theorem frame_ideal_finite : Cert.quiescent_KernelIdeal_pre_finite_KernelIdeal := fun m ρ _ => frame_ideal m ρ trivial

/-- The reference: every run ends, the argument as it was, no counter moved; -/
theorem frame_reference : Cert.quiescent_ReferenceIdeal := fun m ρ _ => Cert.ReferenceIdeal.Softmax.run_frame m ρ

/-- and so under the precondition too. -/
theorem frame_reference_finite : Cert.quiescent_ReferenceIdeal_pre_finite_ReferenceIdeal := fun m ρ _ => frame_reference m ρ trivial

/-- All that is claimed. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, frame_ideal_finite, frame_reference, frame_reference_finite, trivial, Cert.Softmax.algebraic⟩

end Cert.Proof

end
